-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Sparse (m : (ℓ : Loc Cert.Sparse.nD Cert.Sparse.τ Cert.Sparse.sig) → Buf (Elt Bits) ℓ) : Prop :=
  True

def Pre_SparseIdeal (m : (ℓ : Loc Cert.SparseIdeal.nD Cert.SparseIdeal.τ Cert.SparseIdeal.sig) → Buf (Elt Ideal) ℓ) : Prop :=
  True

def Pre_SparseReferenceIdeal (m : (ℓ : Loc Cert.SparseReferenceIdeal.nD Cert.SparseReferenceIdeal.τ Cert.SparseReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Sparse [hSparse : Cert.Sparse.Facts] : Prop :=
  ∀ (m : (ℓ : Loc Cert.Sparse.nD Cert.Sparse.τ Cert.Sparse.sig) → Buf (Elt Bits) ℓ) (g : Dev Cert.Sparse.nD → PrngReg), Pre_Sparse m →
    θ_run (Cert.Sparse.defs (F := Bits)) (onTc (τ := Cert.Sparse.τ) (Cert.Sparse.main (F := Bits))) ⟨m, fun _ => 0, g⟩ (fun r => (∀ c : Dev Cert.Sparse.nD,
      r.2.mem ((c.tc : Thread Cert.Sparse.nD Cert.Sparse.τ).loc Cert.Sparse.main_arg0) = m ((c.tc : Thread Cert.Sparse.nD Cert.Sparse.τ).loc Cert.Sparse.main_arg0)
      ∧ r.2.mem ((c.tc : Thread Cert.Sparse.nD Cert.Sparse.τ).loc Cert.Sparse.main_arg1) = m ((c.tc : Thread Cert.Sparse.nD Cert.Sparse.τ).loc Cert.Sparse.main_arg1)
      ∧ r.2.mem ((c.tc : Thread Cert.Sparse.nD Cert.Sparse.τ).loc Cert.Sparse.main_arg2) = m ((c.tc : Thread Cert.Sparse.nD Cert.Sparse.τ).loc Cert.Sparse.main_arg2))
      ∧ r.2.sem = fun _ => 0)

def quiescent_SparseIdeal [hSparseIdeal : Cert.SparseIdeal.Facts] : Prop :=
  ∀ (m : (ℓ : Loc Cert.SparseIdeal.nD Cert.SparseIdeal.τ Cert.SparseIdeal.sig) → Buf (Elt Ideal) ℓ) (g : Dev Cert.SparseIdeal.nD → PrngReg), Pre_SparseIdeal m →
    θ_run (Cert.SparseIdeal.defs (F := Ideal)) (onTc (τ := Cert.SparseIdeal.τ) (Cert.SparseIdeal.main (F := Ideal))) ⟨m, fun _ => 0, g⟩ (fun r => (∀ c : Dev Cert.SparseIdeal.nD,
      r.2.mem ((c.tc : Thread Cert.SparseIdeal.nD Cert.SparseIdeal.τ).loc Cert.SparseIdeal.main_arg0) = m ((c.tc : Thread Cert.SparseIdeal.nD Cert.SparseIdeal.τ).loc Cert.SparseIdeal.main_arg0)
      ∧ r.2.mem ((c.tc : Thread Cert.SparseIdeal.nD Cert.SparseIdeal.τ).loc Cert.SparseIdeal.main_arg1) = m ((c.tc : Thread Cert.SparseIdeal.nD Cert.SparseIdeal.τ).loc Cert.SparseIdeal.main_arg1)
      ∧ r.2.mem ((c.tc : Thread Cert.SparseIdeal.nD Cert.SparseIdeal.τ).loc Cert.SparseIdeal.main_arg2) = m ((c.tc : Thread Cert.SparseIdeal.nD Cert.SparseIdeal.τ).loc Cert.SparseIdeal.main_arg2))
      ∧ r.2.sem = fun _ => 0)

def quiescent_SparseReferenceIdeal [hSparseReferenceIdeal : Cert.SparseReferenceIdeal.Facts] : Prop :=
  ∀ (m : (ℓ : Loc Cert.SparseReferenceIdeal.nD Cert.SparseReferenceIdeal.τ Cert.SparseReferenceIdeal.sig) → Buf (Elt Ideal) ℓ) (g : Dev Cert.SparseReferenceIdeal.nD → PrngReg), Pre_SparseReferenceIdeal m →
    θ_run (Cert.SparseReferenceIdeal.defs (F := Ideal)) (onTc (τ := Cert.SparseReferenceIdeal.τ) (Cert.SparseReferenceIdeal.main (F := Ideal))) ⟨m, fun _ => 0, g⟩ (fun r => (∀ c : Dev Cert.SparseReferenceIdeal.nD,
      r.2.mem ((c.tc : Thread Cert.SparseReferenceIdeal.nD Cert.SparseReferenceIdeal.τ).loc Cert.SparseReferenceIdeal.main_arg0) = m ((c.tc : Thread Cert.SparseReferenceIdeal.nD Cert.SparseReferenceIdeal.τ).loc Cert.SparseReferenceIdeal.main_arg0)
      ∧ r.2.mem ((c.tc : Thread Cert.SparseReferenceIdeal.nD Cert.SparseReferenceIdeal.τ).loc Cert.SparseReferenceIdeal.main_arg1) = m ((c.tc : Thread Cert.SparseReferenceIdeal.nD Cert.SparseReferenceIdeal.τ).loc Cert.SparseReferenceIdeal.main_arg1)
      ∧ r.2.mem ((c.tc : Thread Cert.SparseReferenceIdeal.nD Cert.SparseReferenceIdeal.τ).loc Cert.SparseReferenceIdeal.main_arg2) = m ((c.tc : Thread Cert.SparseReferenceIdeal.nD Cert.SparseReferenceIdeal.τ).loc Cert.SparseReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v192) = v0 c
          ∧ r.2.mem ((c.tc : Thread Cert.ReferenceIdeal.nD Cert.ReferenceIdeal.τ).loc Cert.ReferenceIdeal.main_v194) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Sparse_SparseIdeal : Prop :=
  True

def algebraic_SparseIdeal_SparseReferenceIdeal [hSparseIdeal : Cert.SparseIdeal.Facts] [hSparseReferenceIdeal : Cert.SparseReferenceIdeal.Facts] : Prop :=
  ∀ (m : (ℓ : Loc Cert.SparseIdeal.nD Cert.SparseIdeal.τ Cert.SparseIdeal.sig) → Buf (Elt Ideal) ℓ) (g : Dev Cert.SparseIdeal.nD → PrngReg)
    (m' : (ℓ : Loc Cert.SparseReferenceIdeal.nD Cert.SparseReferenceIdeal.τ Cert.SparseReferenceIdeal.sig) → Buf (Elt Ideal) ℓ) (g' : Dev Cert.SparseReferenceIdeal.nD → PrngReg), Pre_SparseIdeal m →
    (∀ c : Dev Cert.SparseIdeal.nD,
      m' ((c.tc : Thread Cert.SparseReferenceIdeal.nD Cert.SparseReferenceIdeal.τ).loc Cert.SparseReferenceIdeal.main_arg0) = m ((c.tc : Thread Cert.SparseIdeal.nD Cert.SparseIdeal.τ).loc Cert.SparseIdeal.main_arg0)
      ∧ m' ((c.tc : Thread Cert.SparseReferenceIdeal.nD Cert.SparseReferenceIdeal.τ).loc Cert.SparseReferenceIdeal.main_arg1) = m ((c.tc : Thread Cert.SparseIdeal.nD Cert.SparseIdeal.τ).loc Cert.SparseIdeal.main_arg1)
      ∧ m' ((c.tc : Thread Cert.SparseReferenceIdeal.nD Cert.SparseReferenceIdeal.τ).loc Cert.SparseReferenceIdeal.main_arg2) = m ((c.tc : Thread Cert.SparseIdeal.nD Cert.SparseIdeal.τ).loc Cert.SparseIdeal.main_arg2)) →
    ∃ (v0 : (c : Dev Cert.SparseIdeal.nD) → Buf (Elt Ideal) ((c.tc : Thread Cert.SparseIdeal.nD Cert.SparseIdeal.τ).loc Cert.SparseIdeal.main_v0_0)) (v1 : (c : Dev Cert.SparseIdeal.nD) → Buf (Elt Ideal) ((c.tc : Thread Cert.SparseIdeal.nD Cert.SparseIdeal.τ).loc Cert.SparseIdeal.main_v0_1)),
      θ_run (Cert.SparseIdeal.defs (F := Ideal)) (onTc (τ := Cert.SparseIdeal.τ) (Cert.SparseIdeal.main (F := Ideal))) ⟨m, fun _ => 0, g⟩ (fun r => ∀ c : Dev Cert.SparseIdeal.nD,
          r.2.mem ((c.tc : Thread Cert.SparseIdeal.nD Cert.SparseIdeal.τ).loc Cert.SparseIdeal.main_v0_0) = v0 c
          ∧ r.2.mem ((c.tc : Thread Cert.SparseIdeal.nD Cert.SparseIdeal.τ).loc Cert.SparseIdeal.main_v0_1) = v1 c
          ∧ r.2.mem ((c.tc : Thread Cert.SparseIdeal.nD Cert.SparseIdeal.τ).loc Cert.SparseIdeal.main_arg0) = m ((c.tc : Thread Cert.SparseIdeal.nD Cert.SparseIdeal.τ).loc Cert.SparseIdeal.main_arg0)
          ∧ r.2.mem ((c.tc : Thread Cert.SparseIdeal.nD Cert.SparseIdeal.τ).loc Cert.SparseIdeal.main_arg1) = m ((c.tc : Thread Cert.SparseIdeal.nD Cert.SparseIdeal.τ).loc Cert.SparseIdeal.main_arg1)
          ∧ r.2.mem ((c.tc : Thread Cert.SparseIdeal.nD Cert.SparseIdeal.τ).loc Cert.SparseIdeal.main_arg2) = m ((c.tc : Thread Cert.SparseIdeal.nD Cert.SparseIdeal.τ).loc Cert.SparseIdeal.main_arg2))
      ∧ θ_run (Cert.SparseReferenceIdeal.defs (F := Ideal)) (onTc (τ := Cert.SparseReferenceIdeal.τ) (Cert.SparseReferenceIdeal.main (F := Ideal))) ⟨m', fun _ => 0, g'⟩ (fun r => ∀ c : Dev Cert.SparseReferenceIdeal.nD,
          r.2.mem ((c.tc : Thread Cert.SparseReferenceIdeal.nD Cert.SparseReferenceIdeal.τ).loc Cert.SparseReferenceIdeal.main_v15) = v0 c
          ∧ r.2.mem ((c.tc : Thread Cert.SparseReferenceIdeal.nD Cert.SparseReferenceIdeal.τ).loc Cert.SparseReferenceIdeal.main_v13) = v1 c
          ∧ r.2.mem ((c.tc : Thread Cert.SparseReferenceIdeal.nD Cert.SparseReferenceIdeal.τ).loc Cert.SparseReferenceIdeal.main_arg0) = m' ((c.tc : Thread Cert.SparseReferenceIdeal.nD Cert.SparseReferenceIdeal.τ).loc Cert.SparseReferenceIdeal.main_arg0)
          ∧ r.2.mem ((c.tc : Thread Cert.SparseReferenceIdeal.nD Cert.SparseReferenceIdeal.τ).loc Cert.SparseReferenceIdeal.main_arg1) = m' ((c.tc : Thread Cert.SparseReferenceIdeal.nD Cert.SparseReferenceIdeal.τ).loc Cert.SparseReferenceIdeal.main_arg1)
          ∧ r.2.mem ((c.tc : Thread Cert.SparseReferenceIdeal.nD Cert.SparseReferenceIdeal.τ).loc Cert.SparseReferenceIdeal.main_arg2) = m' ((c.tc : Thread Cert.SparseReferenceIdeal.nD Cert.SparseReferenceIdeal.τ).loc Cert.SparseReferenceIdeal.main_arg2))

def Claim : Prop :=
  ∃ (hKernel : Cert.Kernel.Facts) (hKernelIdeal : Cert.KernelIdeal.Facts) (hReferenceIdeal : Cert.ReferenceIdeal.Facts) (hSparse : Cert.Sparse.Facts) (hSparseIdeal : Cert.SparseIdeal.Facts) (hSparseReferenceIdeal : Cert.SparseReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Sparse (hSparse := hSparse)
    ∧ quiescent_SparseIdeal (hSparseIdeal := hSparseIdeal)
    ∧ quiescent_SparseReferenceIdeal (hSparseReferenceIdeal := hSparseReferenceIdeal)
    ∧ preserves_Kernel_KernelIdeal
    ∧ algebraic_KernelIdeal_ReferenceIdeal (hKernelIdeal := hKernelIdeal) (hReferenceIdeal := hReferenceIdeal)
    ∧ preserves_Sparse_SparseIdeal
    ∧ algebraic_SparseIdeal_SparseReferenceIdeal (hSparseIdeal := hSparseIdeal) (hSparseReferenceIdeal := hSparseReferenceIdeal)
-- ==== Kernel.lean ====
abbrev S12x128x2880 : Shape := ⟨3, ![12, 128, 2880]⟩
abbrev S1440x5120 : Shape := ⟨2, ![1440, 5120]⟩
abbrev S45x5120x16 : Shape := ⟨3, ![45, 5120, 16]⟩
abbrev S12x2880x128 : Shape := ⟨3, ![12, 2880, 128]⟩
abbrev S45x16x5120 : Shape := ⟨3, ![45, 16, 5120]⟩
abbrev S1536x5120 : Shape := ⟨2, ![1536, 5120]⟩
abbrev S23x1536x128 : Shape := ⟨3, ![23, 1536, 128]⟩
abbrev S1440x512 : Shape := ⟨2, ![1440, 512]⟩
abbrev S45x16x512 : Shape := ⟨3, ![45, 16, 512]⟩
abbrev S1536x512 : Shape := ⟨2, ![1536, 512]⟩
abbrev S12 : Shape := ⟨1, ![12]⟩
abbrev S_ : Shape := ⟨0, ![]⟩
abbrev S1 : Shape := ⟨1, ![1]⟩
abbrev S1x2880x128 : Shape := ⟨3, ![1, 2880, 128]⟩
abbrev S2880x128 : Shape := ⟨2, ![2880, 128]⟩
abbrev S1x128x128 : Shape := ⟨3, ![1, 128, 128]⟩
abbrev S128x128 : Shape := ⟨2, ![128, 128]⟩
abbrev S1x64x128 : Shape := ⟨3, ![1, 64, 128]⟩
abbrev S64x128 : Shape := ⟨2, ![64, 128]⟩
abbrev S128x64 : Shape := ⟨2, ![128, 64]⟩
abbrev S1x16x128 : Shape := ⟨3, ![1, 16, 128]⟩
abbrev S16x128 : Shape := ⟨2, ![16, 128]⟩
abbrev S8x128 : Shape := ⟨2, ![8, 128]⟩
abbrev S32x128 : Shape := ⟨2, ![32, 128]⟩
abbrev S8x128x1 : Shape := ⟨3, ![8, 128, 1]⟩
abbrev S256x128 : Shape := ⟨2, ![256, 128]⟩
abbrev S256x256 : Shape := ⟨2, ![256, 256]⟩
abbrev S128x256 : Shape := ⟨2, ![128, 256]⟩
abbrev S192x128 : Shape := ⟨2, ![192, 128]⟩

abbrev nBuf : Space → Nat
  | .hbm => 7
  | .vmem => 8
  | .smem => 0
  | _ => 0

abbrev bufTy : (tb : Table) → Fin (tcTables nBuf tb) → BufTy
  | .hbm, ⟨0, _⟩ => ⟨S12x128x2880, .bf16⟩
  | .hbm, ⟨1, _⟩ => ⟨S1440x5120, .i8⟩
  | .hbm, ⟨2, _⟩ => ⟨S45x5120x16, .i16⟩
  | .hbm, ⟨3, _⟩ => ⟨S12x2880x128, .bf16⟩
  | .hbm, ⟨4, _⟩ => ⟨S45x16x5120, .i16⟩
  | .hbm, ⟨5, _⟩ => ⟨S1536x5120, .f32⟩
  | .hbm, ⟨6, _⟩ => ⟨S23x1536x128, .bf16⟩
  | .local _ .vmem, ⟨0, _⟩ => ⟨S1440x512, .i8⟩
  | .local _ .vmem, ⟨1, _⟩ => ⟨S1440x512, .i8⟩
  | .local _ .vmem, ⟨2, _⟩ => ⟨S45x16x512, .i16⟩
  | .local _ .vmem, ⟨3, _⟩ => ⟨S45x16x512, .i16⟩
  | .local _ .vmem, ⟨4, _⟩ => ⟨S1536x512, .f32⟩
  | .local _ .vmem, ⟨5, _⟩ => ⟨S1536x512, .f32⟩
  | .local _ .vmem, ⟨6, _⟩ => ⟨S12x2880x128, .bf16⟩
  | .local _ .vmem, ⟨7, _⟩ => ⟨S23x1536x128, .bf16⟩
  | _, _ => ⟨S12x128x2880, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![10], ![false]⟩

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1440x512 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S45x16x512 .i16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1536x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S12x128x2880 : Shape := ⟨3, ![12, 128, 2880]⟩
abbrev S1440x5120 : Shape := ⟨2, ![1440, 5120]⟩
abbrev S45x5120x16 : Shape := ⟨3, ![45, 5120, 16]⟩
abbrev S_ : Shape := ⟨0, ![]⟩
abbrev S45x32x5120 : Shape := ⟨3, ![45, 32, 5120]⟩
abbrev S45x5120x1 : Shape := ⟨3, ![45, 5120, 1]⟩
abbrev S45x5120 : Shape := ⟨2, ![45, 5120]⟩
abbrev S45x1x5120 : Shape := ⟨3, ![45, 1, 5120]⟩
abbrev S12x128x1440 : Shape := ⟨3, ![12, 128, 1440]⟩
abbrev S12x128x5120 : Shape := ⟨3, ![12, 128, 5120]⟩
abbrev S1536x2880 : Shape := ⟨2, ![1536, 2880]⟩
abbrev S1536x64 : Shape := ⟨2, ![1536, 64]⟩
abbrev S1536x2944 : Shape := ⟨2, ![1536, 2944]⟩
abbrev S1536x5120 : Shape := ⟨2, ![1536, 5120]⟩
abbrev S1536x23x128 : Shape := ⟨3, ![1536, 23, 128]⟩
abbrev S23x1536x128 : Shape := ⟨3, ![23, 1536, 128]⟩

abbrev nBuf : Space → Nat
  | .hbm => 257
  | .vmem => 0
  | .smem => 0
  | _ => 0

abbrev hbmTy0_0 (i : Nat) : BufTy := match i % 128 with
  | 0 => ⟨S12x128x2880, .bf16⟩
  | 1 => ⟨S1440x5120, .i8⟩
  | 2 => ⟨S45x5120x16, .i16⟩
  | 3 => ⟨S45x5120x16, .bf16⟩
  | 4 => ⟨S1440x5120, .i32⟩
  | 5 => ⟨S_, .i32⟩
  | 6 => ⟨S1440x5120, .i32⟩
  | 7 => ⟨S1440x5120, .i32⟩
  | 8 => ⟨S_, .i32⟩
  | 9 => ⟨S1440x5120, .i32⟩
  | 10 => ⟨S1440x5120, .i32⟩
  | 11 => ⟨S45x32x5120, .i32⟩
  | 12 => ⟨S_, .i32⟩
  | 13 => ⟨S45x32x5120, .i32⟩
  | 14 => ⟨S45x32x5120, .i32⟩
  | 15 => ⟨S_, .i32⟩
  | 16 => ⟨S45x32x5120, .i32⟩
  | 17 => ⟨S45x32x5120, .i32⟩
  | 18 => ⟨S_, .i32⟩
  | 19 => ⟨S45x32x5120, .i32⟩
  | 20 => ⟨S45x32x5120, .i1⟩
  | 21 => ⟨S_, .i32⟩
  | 22 => ⟨S45x32x5120, .i32⟩
  | 23 => ⟨S45x32x5120, .i32⟩
  | 24 => ⟨S_, .i32⟩
  | 25 => ⟨S45x32x5120, .i32⟩
  | 26 => ⟨S45x32x5120, .i32⟩
  | 27 => ⟨S_, .i32⟩
  | 28 => ⟨S45x32x5120, .i32⟩
  | 29 => ⟨S45x32x5120, .i1⟩
  | 30 => ⟨S_, .i32⟩
  | 31 => ⟨S45x32x5120, .i32⟩
  | 32 => ⟨S45x32x5120, .i32⟩
  | 33 => ⟨S_, .i32⟩
  | 34 => ⟨S45x32x5120, .i32⟩
  | 35 => ⟨S45x32x5120, .i32⟩
  | 36 => ⟨S_, .i32⟩
  | 37 => ⟨S45x32x5120, .i32⟩
  | 38 => ⟨S45x32x5120, .i1⟩
  | 39 => ⟨S_, .i32⟩
  | 40 => ⟨S45x32x5120, .i32⟩
  | 41 => ⟨S45x32x5120, .i32⟩
  | 42 => ⟨S_, .i32⟩
  | 43 => ⟨S45x32x5120, .i32⟩
  | 44 => ⟨S45x32x5120, .i32⟩
  | 45 => ⟨S_, .i32⟩
  | 46 => ⟨S45x32x5120, .i32⟩
  | 47 => ⟨S45x32x5120, .i1⟩
  | 48 => ⟨S45x5120x1, .bf16⟩
  | 49 => ⟨S45x5120, .bf16⟩
  | 50 => ⟨S45x1x5120, .bf16⟩
  | 51 => ⟨S45x5120x1, .bf16⟩
  | 52 => ⟨S45x5120, .bf16⟩
  | 53 => ⟨S45x1x5120, .bf16⟩
  | 54 => ⟨S45x5120x1, .bf16⟩
  | 55 => ⟨S45x5120, .bf16⟩
  | 56 => ⟨S45x1x5120, .bf16⟩
  | 57 => ⟨S45x5120x1, .bf16⟩
  | 58 => ⟨S45x5120, .bf16⟩
  | 59 => ⟨S45x1x5120, .bf16⟩
  | 60 => ⟨S45x5120x1, .bf16⟩
  | 61 => ⟨S45x5120, .bf16⟩
  | 62 => ⟨S45x1x5120, .bf16⟩
  | 63 => ⟨S45x5120x1, .bf16⟩
  | 64 => ⟨S45x5120, .bf16⟩
  | 65 => ⟨S45x1x5120, .bf16⟩
  | 66 => ⟨S45x5120x1, .bf16⟩
  | 67 => ⟨S45x5120, .bf16⟩
  | 68 => ⟨S45x1x5120, .bf16⟩
  | 69 => ⟨S45x5120x1, .bf16⟩
  | 70 => ⟨S45x5120, .bf16⟩
  | 71 => ⟨S45x1x5120, .bf16⟩
  | 72 => ⟨S45x5120x1, .bf16⟩
  | 73 => ⟨S45x5120, .bf16⟩
  | 74 => ⟨S45x1x5120, .bf16⟩
  | 75 => ⟨S45x5120x1, .bf16⟩
  | 76 => ⟨S45x5120, .bf16⟩
  | 77 => ⟨S45x1x5120, .bf16⟩
  | 78 => ⟨S45x5120x1, .bf16⟩
  | 79 => ⟨S45x5120, .bf16⟩
  | 80 => ⟨S45x1x5120, .bf16⟩
  | 81 => ⟨S45x5120x1, .bf16⟩
  | 82 => ⟨S45x5120, .bf16⟩
  | 83 => ⟨S45x1x5120, .bf16⟩
  | 84 => ⟨S45x5120x1, .bf16⟩
  | 85 => ⟨S45x5120, .bf16⟩
  | 86 => ⟨S45x1x5120, .bf16⟩
  | 87 => ⟨S45x5120x1, .bf16⟩
  | 88 => ⟨S45x5120, .bf16⟩
  | 89 => ⟨S45x1x5120, .bf16⟩
  | 90 => ⟨S45x5120x1, .bf16⟩
  | 91 => ⟨S45x5120, .bf16⟩
  | 92 => ⟨S45x1x5120, .bf16⟩
  | 93 => ⟨S45x5120x1, .bf16⟩
  | 94 => ⟨S45x5120, .bf16⟩
  | 95 => ⟨S45x1x5120, .bf16⟩
  | 96 => ⟨S45x32x5120, .bf16⟩
  | 97 => ⟨S45x32x5120, .bf16⟩
  | 98 => ⟨S45x32x5120, .bf16⟩
  | 99 => ⟨S45x32x5120, .bf16⟩
  | 100 => ⟨S45x32x5120, .bf16⟩
  | 101 => ⟨S45x32x5120, .bf16⟩
  | 102 => ⟨S45x32x5120, .bf16⟩
  | 103 => ⟨S45x32x5120, .bf16⟩
  | 104 => ⟨S45x32x5120, .bf16⟩
  | 105 => ⟨S45x32x5120, .bf16⟩
  | 106 => ⟨S45x32x5120, .bf16⟩
  | 107 => ⟨S45x32x5120, .bf16⟩
  | 108 => ⟨S45x32x5120, .bf16⟩
  | 109 => ⟨S45x32x5120, .bf16⟩
  | 110 => ⟨S45x32x5120, .bf16⟩
  | 111 => ⟨S45x32x5120, .bf16⟩
  | 112 => ⟨S45x32x5120, .bf16⟩
  | 113 => ⟨S45x32x5120, .bf16⟩
  | 114 => ⟨S45x32x5120, .bf16⟩
  | 115 => ⟨S45x32x5120, .bf16⟩
  | 116 => ⟨S45x32x5120, .bf16⟩
  | 117 => ⟨S45x32x5120, .bf16⟩
  | 118 => ⟨S45x32x5120, .bf16⟩
  | 119 => ⟨S45x32x5120, .bf16⟩
  | 120 => ⟨S45x32x5120, .bf16⟩
  | 121 => ⟨S45x32x5120, .bf16⟩
  | 122 => ⟨S45x32x5120, .bf16⟩
  | 123 => ⟨S45x32x5120, .bf16⟩
  | 124 => ⟨S45x32x5120, .bf16⟩
  | 125 => ⟨S45x32x5120, .bf16⟩
  | 126 => ⟨S45x32x5120, .bf16⟩
  | 127 => ⟨S1440x5120, .bf16⟩
  | _ => ⟨S12x128x2880, .bf16⟩

abbrev hbmTy0_1 (i : Nat) : BufTy := match i % 128 with
  | 0 => ⟨S45x32x5120, .i32⟩
  | 1 => ⟨S_, .i32⟩
  | 2 => ⟨S45x32x5120, .i32⟩
  | 3 => ⟨S45x32x5120, .i32⟩
  | 4 => ⟨S_, .i32⟩
  | 5 => ⟨S45x32x5120, .i32⟩
  | 6 => ⟨S45x32x5120, .i32⟩
  | 7 => ⟨S_, .i32⟩
  | 8 => ⟨S45x32x5120, .i32⟩
  | 9 => ⟨S45x32x5120, .i1⟩
  | 10 => ⟨S_, .i32⟩
  | 11 => ⟨S45x32x5120, .i32⟩
  | 12 => ⟨S45x32x5120, .i32⟩
  | 13 => ⟨S_, .i32⟩
  | 14 => ⟨S45x32x5120, .i32⟩
  | 15 => ⟨S45x32x5120, .i32⟩
  | 16 => ⟨S_, .i32⟩
  | 17 => ⟨S45x32x5120, .i32⟩
  | 18 => ⟨S45x32x5120, .i1⟩
  | 19 => ⟨S_, .i32⟩
  | 20 => ⟨S45x32x5120, .i32⟩
  | 21 => ⟨S45x32x5120, .i32⟩
  | 22 => ⟨S_, .i32⟩
  | 23 => ⟨S45x32x5120, .i32⟩
  | 24 => ⟨S45x32x5120, .i32⟩
  | 25 => ⟨S_, .i32⟩
  | 26 => ⟨S45x32x5120, .i32⟩
  | 27 => ⟨S45x32x5120, .i1⟩
  | 28 => ⟨S_, .i32⟩
  | 29 => ⟨S45x32x5120, .i32⟩
  | 30 => ⟨S45x32x5120, .i32⟩
  | 31 => ⟨S_, .i32⟩
  | 32 => ⟨S45x32x5120, .i32⟩
  | 33 => ⟨S45x32x5120, .i32⟩
  | 34 => ⟨S_, .i32⟩
  | 35 => ⟨S45x32x5120, .i32⟩
  | 36 => ⟨S45x32x5120, .i1⟩
  | 37 => ⟨S45x5120x1, .bf16⟩
  | 38 => ⟨S45x5120, .bf16⟩
  | 39 => ⟨S45x1x5120, .bf16⟩
  | 40 => ⟨S45x5120x1, .bf16⟩
  | 41 => ⟨S45x5120, .bf16⟩
  | 42 => ⟨S45x1x5120, .bf16⟩
  | 43 => ⟨S45x5120x1, .bf16⟩
  | 44 => ⟨S45x5120, .bf16⟩
  | 45 => ⟨S45x1x5120, .bf16⟩
  | 46 => ⟨S45x5120x1, .bf16⟩
  | 47 => ⟨S45x5120, .bf16⟩
  | 48 => ⟨S45x1x5120, .bf16⟩
  | 49 => ⟨S45x5120x1, .bf16⟩
  | 50 => ⟨S45x5120, .bf16⟩
  | 51 => ⟨S45x1x5120, .bf16⟩
  | 52 => ⟨S45x5120x1, .bf16⟩
  | 53 => ⟨S45x5120, .bf16⟩
  | 54 => ⟨S45x1x5120, .bf16⟩
  | 55 => ⟨S45x5120x1, .bf16⟩
  | 56 => ⟨S45x5120, .bf16⟩
  | 57 => ⟨S45x1x5120, .bf16⟩
  | 58 => ⟨S45x5120x1, .bf16⟩
  | 59 => ⟨S45x5120, .bf16⟩
  | 60 => ⟨S45x1x5120, .bf16⟩
  | 61 => ⟨S45x5120x1, .bf16⟩
  | 62 => ⟨S45x5120, .bf16⟩
  | 63 => ⟨S45x1x5120, .bf16⟩
  | 64 => ⟨S45x5120x1, .bf16⟩
  | 65 => ⟨S45x5120, .bf16⟩
  | 66 => ⟨S45x1x5120, .bf16⟩
  | 67 => ⟨S45x5120x1, .bf16⟩
  | 68 => ⟨S45x5120, .bf16⟩
  | 69 => ⟨S45x1x5120, .bf16⟩
  | 70 => ⟨S45x5120x1, .bf16⟩
  | 71 => ⟨S45x5120, .bf16⟩
  | 72 => ⟨S45x1x5120, .bf16⟩
  | 73 => ⟨S45x5120x1, .bf16⟩
  | 74 => ⟨S45x5120, .bf16⟩
  | 75 => ⟨S45x1x5120, .bf16⟩
  | 76 => ⟨S45x5120x1, .bf16⟩
  | 77 => ⟨S45x5120, .bf16⟩
  | 78 => ⟨S45x1x5120, .bf16⟩
  | 79 => ⟨S45x5120x1, .bf16⟩
  | 80 => ⟨S45x5120, .bf16⟩
  | 81 => ⟨S45x1x5120, .bf16⟩
  | 82 => ⟨S45x5120x1, .bf16⟩
  | 83 => ⟨S45x5120, .bf16⟩
  | 84 => ⟨S45x1x5120, .bf16⟩
  | 85 => ⟨S45x32x5120, .bf16⟩
  | 86 => ⟨S45x32x5120, .bf16⟩
  | 87 => ⟨S45x32x5120, .bf16⟩
  | 88 => ⟨S45x32x5120, .bf16⟩
  | 89 => ⟨S45x32x5120, .bf16⟩
  | 90 => ⟨S45x32x5120, .bf16⟩
  | 91 => ⟨S45x32x5120, .bf16⟩
  | 92 => ⟨S45x32x5120, .bf16⟩
  | 93 => ⟨S45x32x5120, .bf16⟩
  | 94 => ⟨S45x32x5120, .bf16⟩
  | 95 => ⟨S45x32x5120, .bf16⟩
  | 96 => ⟨S45x32x5120, .bf16⟩
  | 97 => ⟨S45x32x5120, .bf16⟩
  | 98 => ⟨S45x32x5120, .bf16⟩
  | 99 => ⟨S45x32x5120, .bf16⟩
  | 100 => ⟨S45x32x5120, .bf16⟩
  | 101 => ⟨S45x32x5120, .bf16⟩
  | 102 => ⟨S45x32x5120, .bf16⟩
  | 103 => ⟨S45x32x5120, .bf16⟩
  | 104 => ⟨S45x32x5120, .bf16⟩
  | 105 => ⟨S45x32x5120, .bf16⟩
  | 106 => ⟨S45x32x5120, .bf16⟩
  | 107 => ⟨S45x32x5120, .bf16⟩
  | 108 => ⟨S45x32x5120, .bf16⟩
  | 109 => ⟨S45x32x5120, .bf16⟩
  | 110 => ⟨S45x32x5120, .bf16⟩
  | 111 => ⟨S45x32x5120, .bf16⟩
  | 112 => ⟨S45x32x5120, .bf16⟩
  | 113 => ⟨S45x32x5120, .bf16⟩
  | 114 => ⟨S45x32x5120, .bf16⟩
  | 115 => ⟨S45x32x5120, .bf16⟩
  | 116 => ⟨S1440x5120, .bf16⟩
  | 117 => ⟨S12x128x1440, .bf16⟩
  | 118 => ⟨S12x128x5120, .f32⟩
  | 119 => ⟨S12x128x1440, .bf16⟩
  | 120 => ⟨S12x128x5120, .f32⟩
  | 121 => ⟨S12x128x5120, .f32⟩
  | 122 => ⟨S1536x2880, .bf16⟩
  | 123 => ⟨S_, .bf16⟩
  | 124 => ⟨S1536x64, .bf16⟩
  | 125 => ⟨S1536x2944, .bf16⟩
  | 126 => ⟨S1536x5120, .f32⟩
  | 127 => ⟨S1536x23x128, .bf16⟩
  | _ => ⟨S12x128x2880, .bf16⟩

abbrev hbmTy0_2 (i : Nat) : BufTy := match i % 128 with
  | 0 => ⟨S23x1536x128, .bf16⟩
  | _ => ⟨S12x128x2880, .bf16⟩

abbrev hbmTy (i : Nat) : BufTy := match i / 128 with
  | 0 => hbmTy0_0 i
  | 1 => hbmTy0_1 i
  | 2 => hbmTy0_2 i
  | _ => ⟨S12x128x2880, .bf16⟩

abbrev bufTy : (tb : Table) → Fin (tcTables nBuf tb) → BufTy
  | .hbm, ⟨i, _⟩ => hbmTy i
  | _, _ => ⟨S12x128x2880, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_c_3 : Ref sig .tc := ⟨.hbm, 18, rfl⟩
abbrev main_v11 : Ref sig .tc := ⟨.hbm, 19, rfl⟩
abbrev main_v12 : Ref sig .tc := ⟨.hbm, 20, rfl⟩
abbrev main_c_4 : Ref sig .tc := ⟨.hbm, 21, rfl⟩
abbrev main_v13 : Ref sig .tc := ⟨.hbm, 22, rfl⟩
abbrev main_v14 : Ref sig .tc := ⟨.hbm, 23, rfl⟩
abbrev main_c_5 : Ref sig .tc := ⟨.hbm, 24, rfl⟩
abbrev main_v15 : Ref sig .tc := ⟨.hbm, 25, rfl⟩
abbrev main_v16 : Ref sig .tc := ⟨.hbm, 26, rfl⟩
abbrev main_c_6 : Ref sig .tc := ⟨.hbm, 27, rfl⟩
abbrev main_v17 : Ref sig .tc := ⟨.hbm, 28, rfl⟩
abbrev main_v18 : Ref sig .tc := ⟨.hbm, 29, rfl⟩
abbrev main_c_7 : Ref sig .tc := ⟨.hbm, 30, rfl⟩
abbrev main_v19 : Ref sig .tc := ⟨.hbm, 31, rfl⟩
abbrev main_v20 : Ref sig .tc := ⟨.hbm, 32, rfl⟩
abbrev main_c_8 : Ref sig .tc := ⟨.hbm, 33, rfl⟩
abbrev main_v21 : Ref sig .tc := ⟨.hbm, 34, rfl⟩
abbrev main_v22 : Ref sig .tc := ⟨.hbm, 35, rfl⟩
abbrev main_c_9 : Ref sig .tc := ⟨.hbm, 36, rfl⟩
abbrev main_v23 : Ref sig .tc := ⟨.hbm, 37, rfl⟩
abbrev main_v24 : Ref sig .tc := ⟨.hbm, 38, rfl⟩
abbrev main_c_10 : Ref sig .tc := ⟨.hbm, 39, rfl⟩
abbrev main_v25 : Ref sig .tc := ⟨.hbm, 40, rfl⟩
abbrev main_v26 : Ref sig .tc := ⟨.hbm, 41, rfl⟩
abbrev main_c_11 : Ref sig .tc := ⟨.hbm, 42, rfl⟩
abbrev main_v27 : Ref sig .tc := ⟨.hbm, 43, rfl⟩
abbrev main_v28 : Ref sig .tc := ⟨.hbm, 44, rfl⟩
abbrev main_c_12 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_call0_v0 : Ref sig .tc := ⟨.hbm, 96, rfl⟩
abbrev main_call0_v1 : Ref sig .tc := ⟨.hbm, 97, rfl⟩
abbrev main_v79 : Ref sig .tc := ⟨.hbm, 98, rfl⟩
abbrev main_call1_v0 : Ref sig .tc := ⟨.hbm, 99, rfl⟩
abbrev main_call1_v1 : Ref sig .tc := ⟨.hbm, 100, rfl⟩
abbrev main_v80 : Ref sig .tc := ⟨.hbm, 101, rfl⟩
abbrev main_call2_v0 : Ref sig .tc := ⟨.hbm, 102, rfl⟩
abbrev main_call2_v1 : Ref sig .tc := ⟨.hbm, 103, rfl⟩
abbrev main_v81 : Ref sig .tc := ⟨.hbm, 104, rfl⟩
abbrev main_call3_v0 : Ref sig .tc := ⟨.hbm, 105, rfl⟩
abbrev main_call3_v1 : Ref sig .tc := ⟨.hbm, 106, rfl⟩
abbrev main_v82 : Ref sig .tc := ⟨.hbm, 107, rfl⟩
abbrev main_call4_v0 : Ref sig .tc := ⟨.hbm, 108, rfl⟩
abbrev main_call4_v1 : Ref sig .tc := ⟨.hbm, 109, rfl⟩
abbrev main_v83 : Ref sig .tc := ⟨.hbm, 110, rfl⟩
abbrev main_call5_v0 : Ref sig .tc := ⟨.hbm, 111, rfl⟩
abbrev main_call5_v1 : Ref sig .tc := ⟨.hbm, 112, rfl⟩
abbrev main_v84 : Ref sig .tc := ⟨.hbm, 113, rfl⟩
abbrev main_call6_v0 : Ref sig .tc := ⟨.hbm, 114, rfl⟩
abbrev main_call6_v1 : Ref sig .tc := ⟨.hbm, 115, rfl⟩
abbrev main_v85 : Ref sig .tc := ⟨.hbm, 116, rfl⟩
abbrev main_call7_v0 : Ref sig .tc := ⟨.hbm, 117, rfl⟩
abbrev main_call7_v1 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_c_13 : Ref sig .tc := ⟨.hbm, 129, rfl⟩
abbrev main_v96 : Ref sig .tc := ⟨.hbm, 130, rfl⟩
abbrev main_v97 : Ref sig .tc := ⟨.hbm, 131, rfl⟩
abbrev main_c_14 : Ref sig .tc := ⟨.hbm, 132, rfl⟩
abbrev main_v98 : Ref sig .tc := ⟨.hbm, 133, rfl⟩
abbrev main_v99 : Ref sig .tc := ⟨.hbm, 134, rfl⟩
abbrev main_c_15 : Ref sig .tc := ⟨.hbm, 135, rfl⟩
abbrev main_v100 : Ref sig .tc := ⟨.hbm, 136, rfl⟩
abbrev main_v101 : Ref sig .tc := ⟨.hbm, 137, rfl⟩
abbrev main_c_16 : Ref sig .tc := ⟨.hbm, 138, rfl⟩
abbrev main_v102 : Ref sig .tc := ⟨.hbm, 139, rfl⟩
abbrev main_v103 : Ref sig .tc := ⟨.hbm, 140, rfl⟩
abbrev main_c_17 : Ref sig .tc := ⟨.hbm, 141, rfl⟩
abbrev main_v104 : Ref sig .tc := ⟨.hbm, 142, rfl⟩
abbrev main_v105 : Ref sig .tc := ⟨.hbm, 143, rfl⟩
abbrev main_c_18 : Ref sig .tc := ⟨.hbm, 144, rfl⟩
abbrev main_v106 : Ref sig .tc := ⟨.hbm, 145, rfl⟩
abbrev main_v107 : Ref sig .tc := ⟨.hbm, 146, rfl⟩
abbrev main_c_19 : Ref sig .tc := ⟨.hbm, 147, rfl⟩
abbrev main_v108 : Ref sig .tc := ⟨.hbm, 148, rfl⟩
abbrev main_v109 : Ref sig .tc := ⟨.hbm, 149, rfl⟩
abbrev main_c_20 : Ref sig .tc := ⟨.hbm, 150, rfl⟩
abbrev main_v110 : Ref sig .tc := ⟨.hbm, 151, rfl⟩
abbrev main_v111 : Ref sig .tc := ⟨.hbm, 152, rfl⟩
abbrev main_c_21 : Ref sig .tc := ⟨.hbm, 153, rfl⟩
abbrev main_v112 : Ref sig .tc := ⟨.hbm, 154, rfl⟩
abbrev main_v113 : Ref sig .tc := ⟨.hbm, 155, rfl⟩
abbrev main_c_22 : Ref sig .tc := ⟨.hbm, 156, rfl⟩
abbrev main_v114 : Ref sig .tc := ⟨.hbm, 157, rfl⟩
abbrev main_v115 : Ref sig .tc := ⟨.hbm, 158, rfl⟩
abbrev main_c_23 : Ref sig .tc := ⟨.hbm, 159, rfl⟩
abbrev main_v116 : Ref sig .tc := ⟨.hbm, 160, rfl⟩
abbrev main_v117 : Ref sig .tc := ⟨.hbm, 161, rfl⟩
abbrev main_c_24 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_call15_v0 : Ref sig .tc := ⟨.hbm, 213, rfl⟩
abbrev main_call15_v1 : Ref sig .tc := ⟨.hbm, 214, rfl⟩
abbrev main_v168 : Ref sig .tc := ⟨.hbm, 215, rfl⟩
abbrev main_call16_v0 : Ref sig .tc := ⟨.hbm, 216, rfl⟩
abbrev main_call16_v1 : Ref sig .tc := ⟨.hbm, 217, rfl⟩
abbrev main_v169 : Ref sig .tc := ⟨.hbm, 218, rfl⟩
abbrev main_call17_v0 : Ref sig .tc := ⟨.hbm, 219, rfl⟩
abbrev main_call17_v1 : Ref sig .tc := ⟨.hbm, 220, rfl⟩
abbrev main_v170 : Ref sig .tc := ⟨.hbm, 221, rfl⟩
abbrev main_call18_v0 : Ref sig .tc := ⟨.hbm, 222, rfl⟩
abbrev main_call18_v1 : Ref sig .tc := ⟨.hbm, 223, rfl⟩
abbrev main_v171 : Ref sig .tc := ⟨.hbm, 224, rfl⟩
abbrev main_call19_v0 : Ref sig .tc := ⟨.hbm, 225, rfl⟩
abbrev main_call19_v1 : Ref sig .tc := ⟨.hbm, 226, rfl⟩
abbrev main_v172 : Ref sig .tc := ⟨.hbm, 227, rfl⟩
abbrev main_call20_v0 : Ref sig .tc := ⟨.hbm, 228, rfl⟩
abbrev main_call20_v1 : Ref sig .tc := ⟨.hbm, 229, rfl⟩
abbrev main_v173 : Ref sig .tc := ⟨.hbm, 230, rfl⟩
abbrev main_call21_v0 : Ref sig .tc := ⟨.hbm, 231, rfl⟩
abbrev main_call21_v1 : Ref sig .tc := ⟨.hbm, 232, rfl⟩
abbrev main_v174 : Ref sig .tc := ⟨.hbm, 233, rfl⟩
abbrev main_call22_v0 : Ref sig .tc := ⟨.hbm, 234, rfl⟩
abbrev main_call22_v1 : Ref sig .tc := ⟨.hbm, 235, rfl⟩
abbrev main_v175 : Ref sig .tc := ⟨.hbm, 236, rfl⟩
abbrev main_v176 : Ref sig .tc := ⟨.hbm, 237, rfl⟩
abbrev main_v177 : Ref sig .tc := ⟨.hbm, 238, rfl⟩
abbrev main_v178 : Ref sig .tc := ⟨.hbm, 239, rfl⟩
abbrev main_v179 : Ref sig .tc := ⟨.hbm, 240, rfl⟩
abbrev main_v180 : Ref sig .tc := ⟨.hbm, 241, rfl⟩
abbrev main_v181 : Ref sig .tc := ⟨.hbm, 242, rfl⟩
abbrev main_v182 : Ref sig .tc := ⟨.hbm, 243, rfl⟩
abbrev main_v183 : Ref sig .tc := ⟨.hbm, 244, rfl⟩
abbrev main_v184 : Ref sig .tc := ⟨.hbm, 245, rfl⟩
abbrev main_v185 : Ref sig .tc := ⟨.hbm, 246, rfl⟩
abbrev main_v186 : Ref sig .tc := ⟨.hbm, 247, rfl⟩
abbrev main_v187 : Ref sig .tc := ⟨.hbm, 248, rfl⟩
abbrev main_v188 : Ref sig .tc := ⟨.hbm, 249, rfl⟩
abbrev main_v189 : Ref sig .tc := ⟨.hbm, 250, rfl⟩
abbrev main_cst : Ref sig .tc := ⟨.hbm, 251, rfl⟩
abbrev main_v190 : Ref sig .tc := ⟨.hbm, 252, rfl⟩
abbrev main_v191 : Ref sig .tc := ⟨.hbm, 253, rfl⟩
abbrev main_v192 : Ref sig .tc := ⟨.hbm, 254, rfl⟩
abbrev main_v193 : Ref sig .tc := ⟨.hbm, 255, rfl⟩
abbrev main_v194 : Ref sig .tc := ⟨.hbm, 256, rfl⟩

abbrev nD : Nat := 1
abbrev τ : Topo := Topo.v7x

variable {F : FTy → Type} [FloatOps F]
-- ==== Sparse.lean ====
abbrev S23x1536x128 : Shape := ⟨3, ![23, 1536, 128]⟩
abbrev S320x23x8x128 : Shape := ⟨4, ![320, 23, 8, 128]⟩
abbrev S1536x5120 : Shape := ⟨2, ![1536, 5120]⟩
abbrev S32x23x8x128 : Shape := ⟨4, ![32, 23, 8, 128]⟩
abbrev S1536x512 : Shape := ⟨2, ![1536, 512]⟩
abbrev S_ : Shape := ⟨0, ![]⟩
abbrev S1x1x8x128 : Shape := ⟨4, ![1, 1, 8, 128]⟩
abbrev S8x128 : Shape := ⟨2, ![8, 128]⟩
abbrev S16x128 : Shape := ⟨2, ![16, 128]⟩
abbrev S256x128 : Shape := ⟨2, ![256, 128]⟩
abbrev S256x256 : Shape := ⟨2, ![256, 256]⟩
abbrev S1x128x128 : Shape := ⟨3, ![1, 128, 128]⟩
abbrev S128x128 : Shape := ⟨2, ![128, 128]⟩
abbrev S128x256 : Shape := ⟨2, ![128, 256]⟩

abbrev nBuf : Space → Nat
  | .hbm => 5
  | .vmem => 9
  | .smem => 0
  | _ => 0

abbrev bufTy : (tb : Table) → Fin (tcTables nBuf tb) → BufTy
  | .hbm, ⟨0, _⟩ => ⟨S23x1536x128, .bf16⟩
  | .hbm, ⟨1, _⟩ => ⟨S320x23x8x128, .i32⟩
  | .hbm, ⟨2, _⟩ => ⟨S1536x5120, .f32⟩
  | .hbm, ⟨3, _⟩ => ⟨S1536x5120, .bf16⟩
  | .hbm, ⟨4, _⟩ => ⟨S1536x5120, .f32⟩
  | .local _ .vmem, ⟨0, _⟩ => ⟨S32x23x8x128, .i32⟩
  | .local _ .vmem, ⟨1, _⟩ => ⟨S32x23x8x128, .i32⟩
  | .local _ .vmem, ⟨2, _⟩ => ⟨S1536x512, .f32⟩
  | .local _ .vmem, ⟨3, _⟩ => ⟨S1536x512, .f32⟩
  | .local _ .vmem, ⟨4, _⟩ => ⟨S1536x512, .bf16⟩
  | .local _ .vmem, ⟨5, _⟩ => ⟨S1536x512, .bf16⟩
  | .local _ .vmem, ⟨6, _⟩ => ⟨S1536x512, .f32⟩
  | .local _ .vmem, ⟨7, _⟩ => ⟨S1536x512, .f32⟩
  | .local _ .vmem, ⟨8, _⟩ => ⟨S23x1536x128, .bf16⟩
  | _, _ => ⟨S23x1536x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![10], ![false]⟩

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S32x23x8x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1536x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1536x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1536x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== SparseReferenceIdeal.lean ====
abbrev S23x1536x128 : Shape := ⟨3, ![23, 1536, 128]⟩
abbrev S320x23x8x128 : Shape := ⟨4, ![320, 23, 8, 128]⟩
abbrev S1536x5120 : Shape := ⟨2, ![1536, 5120]⟩
abbrev S1536x23x128 : Shape := ⟨3, ![1536, 23, 128]⟩
abbrev S1536x2944 : Shape := ⟨2, ![1536, 2944]⟩
abbrev S_ : Shape := ⟨0, ![]⟩
abbrev S320x23x8x1x128 : Shape := ⟨5, ![320, 23, 8, 1, 128]⟩
abbrev S320x23x8x2x128 : Shape := ⟨5, ![320, 23, 8, 2, 128]⟩
abbrev S320x8x2x23x128 : Shape := ⟨5, ![320, 8, 2, 23, 128]⟩
abbrev S5120x2944 : Shape := ⟨2, ![5120, 2944]⟩

abbrev nBuf : Space → Nat
  | .hbm => 20
  | .vmem => 0
  | .smem => 0
  | _ => 0

abbrev bufTy : (tb : Table) → Fin (tcTables nBuf tb) → BufTy
  | .hbm, ⟨0, _⟩ => ⟨S23x1536x128, .bf16⟩
  | .hbm, ⟨1, _⟩ => ⟨S320x23x8x128, .i32⟩
  | .hbm, ⟨2, _⟩ => ⟨S1536x5120, .f32⟩
  | .hbm, ⟨3, _⟩ => ⟨S1536x23x128, .bf16⟩
  | .hbm, ⟨4, _⟩ => ⟨S1536x2944, .bf16⟩
  | .hbm, ⟨5, _⟩ => ⟨S320x23x8x128, .i16⟩
  | .hbm, ⟨6, _⟩ => ⟨S320x23x8x128, .bf16⟩
  | .hbm, ⟨7, _⟩ => ⟨S_, .i32⟩
  | .hbm, ⟨8, _⟩ => ⟨S320x23x8x128, .i32⟩
  | .hbm, ⟨9, _⟩ => ⟨S320x23x8x128, .i32⟩
  | .hbm, ⟨10, _⟩ => ⟨S320x23x8x128, .i16⟩
  | .hbm, ⟨11, _⟩ => ⟨S320x23x8x128, .bf16⟩
  | .hbm, ⟨12, _⟩ => ⟨S320x23x8x1x128, .bf16⟩
  | .hbm, ⟨13, _⟩ => ⟨S320x23x8x1x128, .bf16⟩
  | .hbm, ⟨14, _⟩ => ⟨S320x23x8x2x128, .bf16⟩
  | .hbm, ⟨15, _⟩ => ⟨S320x8x2x23x128, .bf16⟩
  | .hbm, ⟨16, _⟩ => ⟨S5120x2944, .bf16⟩
  | .hbm, ⟨17, _⟩ => ⟨S1536x5120, .f32⟩
  | .hbm, ⟨18, _⟩ => ⟨S1536x5120, .f32⟩
  | .hbm, ⟨19, _⟩ => ⟨S1536x5120, .bf16⟩
  | _, _ => ⟨S23x1536x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== Proof.Parts.lean ====
/-
  The body of the dense call at one grid point, cut in three: the conditional that fills the scratch of `x` tiles at the
  first point, the products, and the conditional that closes the copy of that scratch at the last point.
-/
module

public import proofs.«01_k».proof.Proof.Gen.Kernel.Frame
public import proofs.«01_k».proof.Proof.Gen.Kernel.Skeleton

@[expose] public section

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The contents of memref `M`'s buffer on core `c`, and that buffer held whole, at a share. -/
abbrev Bf (c : Dev nD) {sp : Space} {S : Shape} {e : EltTy} (M : Memref sig .tc sp S e) : Type := Buf (Elt F) (M.view.loc (c : Thread nD τ))
abbrev ptq (c : Dev nD) {sp : Space} {S : Shape} {e : EltTy} (q : PosShare TreeShare) (M : Memref sig .tc sp S e) (f : Bf (F := F) c M) : sProp 𝕄 :=
  M.view.loc (c : Thread nD τ) ↦{q} f

section Body

variable (i : grid0.Coords)
  (M1 : Memref sig .tc .hbm S12x2880x128 .bf16) (h1 : M1.IsWhole) (M2 : Memref sig .tc .vmem S1440x512 .i8) (h2 : M2.IsWhole)
  (M3 : Memref sig .tc .vmem S45x16x512 .i16) (h3 : M3.IsWhole) (M4 : Memref sig .tc .vmem S1536x512 .f32) (h4 : M4.IsWhole)
  (M5 : Memref sig .tc .hbm S23x1536x128 .bf16) (h5 : M5.IsWhole) (M6 : Memref sig .tc .vmem S12x2880x128 .bf16) (h6 : M6.IsWhole)
  (M7 : Memref sig .tc .vmem S23x1536x128 .bf16) (h7 : M7.IsWhole) (M8 : DmaSems sig S12) (M9 : DmaSems sig S_)

/-- The filling of the scratch of `x` tiles: the `x` rows are copied in and transposed tile by tile. -/
def fillPre : Prog (TpuEff nD τ sig (Elt F) Λ₀ .tc) PUnit := do
  let v28040_r0 : FVec F S128x128 .bf16 ← k0_part67 i M1 h1 M2 h2 M3 h3 M4 h4 M5 h5 M6 h6 M7 h7 M8 M9
  k0_part61 i M1 h1 M2 h2 M3 h3 M4 h4 M5 h5 M6 h6 M7 h7 M8 M9 v28040_r0
  let ⟨v28096_r0, v28097_r0⟩ : Σ' (v28096_r0 : FVec F S128x128 .bf16), Vec F S1x128x128 .bf16 ← k0_part62 i M1 h1 M2 h2 M3 h3 M4 h4 M5 h5 M6 h6 M7 h7 M8 M9
  let v28125_r0 : FVec F S128x128 .bf16 ← k0_part63 i M1 h1 M2 h2 M3 h3 M4 h4 M5 h5 M6 h6 M7 h7 M8 M9 v28096_r0 v28097_r0
  k0_part64 i M1 h1 M2 h2 M3 h3 M4 h4 M5 h5 M6 h6 M7 h7 M8 M9 v28125_r0
  let v28180_r0 : FVec F S128x128 .bf16 ← k0_part65 i M1 h1 M2 h2 M3 h3 M4 h4 M5 h5 M6 h6 M7 h7 M8 M9
  k0_part66 i M1 h1 M2 h2 M3 h3 M4 h4 M5 h5 M6 h6 M7 h7 M8 M9 v28180_r0

/-- The first conditional: at the first point the `x` rows are copied in, transposed tile by tile into the scratch, and
    the copy of the scratch out to the second result is started. -/
def fillProg : Prog (TpuEff nD τ sig (Elt F) Λ₀ .tc) PUnit :=
  if Scalar.cmpi .ne (Scalar.extui (Scalar.cmpi .eq (BitVec.ofNat 32 (i 0).val) 0#32) : BitVec 32) 0#32 = 1#1 then do
    fillPre i M1 h1 M2 h2 M3 h3 M4 h4 M5 h5 M6 h6 M7 h7 M8 M9
    Prog.lift (.enqueueDma M7 (.here M5) (.dma M9.sem) h7.wordExact h5.wordExact ⟨Or.inl rfl, trivial⟩)
    pure ⟨⟩
  else pure ⟨⟩

/-- What the first part does after the conditional. -/
def tail68 : Prog (TpuEff nD τ sig (Elt F) Λ₀ .tc) (Σ' (arg0 : BitVec 32) (k0_mxu1 : Mxu F) (v5_r0 : IVec S8x128 32) (v7_r0 : IVec S32x128 32), IVec S8x128 32) := do
  let v3_r0 : Vec F S1x16x128 .i16 ← Prog.lift (.load M3 (Rect.unit (s := S45x16x512) ![0, 0, 0] S1x16x128.size inb_S45x16x512_S1x16x128_0_0_0).toLoadRect (View.loadsAt_vmem h_S1x16x128))
  let v6_r0 : Vec F S32x128 .i8 ← Prog.lift (.load M2 (Rect.unit (s := S1440x512) ![0, 0] S32x128.size inb_S1440x512_S32x128_0_0).toLoadRect (View.loadsAt_vmem h_S32x128))
  pure ⟨BitVec.ofNat 32 (i 0).val, Mxu.init, k0_pay312 v3_r0, k0_pay313 v6_r0, k0_pay314 v3_r0 v6_r0⟩

theorem part68_split : k0_part68 (F := F) i M1 h1 M2 h2 M3 h3 M4 h4 M5 h5 M6 h6 M7 h7 M8 M9
    = fillProg i M1 h1 M2 h2 M3 h3 M4 h4 M5 h5 M6 h6 M7 h7 M8 M9 >>= fun _ => tail68 i M2 M3 := by
  rw [k0_part68_eq_skeleton]; unfold k0_part68_skel fillProg fillPre tail68
  by_cases hc : Scalar.cmpi .ne (Scalar.extui (Scalar.cmpi .eq (BitVec.ofNat 32 (i 0).val) 0#32) : BitVec 32) 0#32 = 1#1
  · simp only [dif_pos hc, if_pos hc, bind_assoc, pure_bind]
  · simp only [dif_neg hc, if_neg hc, bind_assoc, pure_bind]

/-- The last conditional: at the last point the copy of the scratch is waited for. -/
def closeProg : Prog (TpuEff nD τ sig (Elt F) Λ₀ .tc) PUnit :=
  if Scalar.cmpi .ne (Scalar.extui (Scalar.cmpi .eq (BitVec.ofNat 32 (i 0).val) 9#32) : BitVec 32) 0#32 = 1#1 then do
    Prog.lift (.waitDma2 M9.sem M7 M5 h7.wordExact h5.wordExact)
    pure ⟨⟩
  else pure ⟨⟩

theorem close_split {α : Type} (k : Prog (TpuEff nD τ sig (Elt F) Λ₀ .tc) α) :
    (if h : Scalar.cmpi .ne (Scalar.extui (Scalar.cmpi .eq (BitVec.ofNat 32 (i 0).val) 9#32) : BitVec 32) 0#32 = 1#1 then
      Prog.lift (.waitDma2 M9.sem M7 M5 h7.wordExact h5.wordExact) >>= fun _ => k else k)
    = closeProg i M5 h5 M7 h7 M9 >>= fun _ => k := by
  unfold closeProg
  split <;> simp only [bind_assoc, pure_bind]

end Body

end Cert.Proof.K

end
-- ==== Proof.Lump.lean ====
/-
  The body of the dense call at one grid point, its products: everything between the conditional that fills the scratch
  of `x` tiles at the first point and the conditional that closes the copy of that scratch at the last one.
-/
module

public import proofs.«01_k».proof.Proof.Parts

@[expose] public section

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

section Body

variable (i : grid0.Coords)
  (M1 : Memref sig .tc .hbm S12x2880x128 .bf16) (h1 : M1.IsWhole) (M2 : Memref sig .tc .vmem S1440x512 .i8) (h2 : M2.IsWhole)
  (M3 : Memref sig .tc .vmem S45x16x512 .i16) (h3 : M3.IsWhole) (M4 : Memref sig .tc .vmem S1536x512 .f32) (h4 : M4.IsWhole)
  (M5 : Memref sig .tc .hbm S23x1536x128 .bf16) (h5 : M5.IsWhole) (M6 : Memref sig .tc .vmem S12x2880x128 .bf16) (h6 : M6.IsWhole)
  (M7 : Memref sig .tc .vmem S23x1536x128 .bf16) (h7 : M7.IsWhole) (M8 : DmaSems sig S12) (M9 : DmaSems sig S_)

/-- What the body leaves in the result's block, WITH the proof that it does: given what the two conditionals do with all
    the rest (`R` before the first, the scratch of `x` tiles readable at `X` between the two, `R''` after the last), the
    body runs from the two input blocks, reading them and the scratch alone. -/
noncomputable def lumpRun (c : Dev nD) (q : PosShare TreeShare) (f2 : Bf (F := F) c M2) (f3 : Bf (F := F) c M3) (X : Bf (F := F) c M7) :
    { W : Bf (F := F) c M4 //
      ∀ (f4 : Bf (F := F) c M4) (R R' R'' : sProp 𝕄) (E : Set ℕ) (Q : PUnit → sProp 𝕄)
        (_ : R ⊢ wp frame (wpE (defs₀ (F := F)) Variants.none c none) E (fillProg i M1 h1 M2 h2 M3 h3 M4 h4 M5 h5 M6 h6 M7 h7 M8 M9)
          (fun _ => iprop(ptq c q M7 X ∗ R')))
        (_ : iprop(ptq c q M7 X ∗ R') ⊢ wp frame (wpE (defs₀ (F := F)) Variants.none c none) E (closeProg i M5 h5 M7 h7 M9) (fun _ => R'')),
        iprop(R ∗ ptq c fullShare M2 f2 ∗ ptq c fullShare M3 f3 ∗ ptq c fullShare M4 f4
          ∗ (iprop(R'' ∗ ptq c fullShare M2 f2 ∗ ptq c fullShare M3 f3 ∗ ptq c fullShare M4 W) -∗ Q ⟨⟩))
        ⊢ wp frame (wpE (defs₀ (F := F)) Variants.none c none) E
            (cc0_dense_matmul i M1 h1 M2 h2 M3 h3 M4 h4 M5 h5 M6 h6 M7 h7 M8 M9) Q } := by
  refine ⟨?_, fun f4 R R' R'' E Q hfill hclose => ?run⟩
  case run =>
    rw [cc0_dense_matmul_eq_skeleton]; unfold cc0_dense_matmul_skel
    rw [k0_part678_eq_skeleton]; unfold k0_part678_skel
    rw [part68_split]
    simp only [Prog.bind_assoc]
    iintro ⟨HR, H2, H3, H4, Hk⟩
    sl_exec_parts!
    beta_reduce
    rw [close_split (F := F) i M5 h5 M7 h7 M9]
    sl_exec
    sl_step
    iapply Hk
    isplitl [HcloseProg_0]; · iexact HcloseProg_0
    isplitl [H2]; · iexact H2
    isplitl [H3]; · iexact H3
    iexact H4

end Body

end Cert.Proof.K

end
-- ==== Proof.Fill.lean ====
/-
  The two conditionals of the body of the dense call: what filling the scratch of `x` tiles leaves, and the copy of that
  scratch to the second result, started at the first grid point and waited for at the last.
-/
module

public import proofs.«01_k».proof.Proof.Parts

@[expose] public section

set_option sl_exec.dmaWindow true

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The buffers and counters of the call the conditionals use. -/
abbrev mX : Memref sig .tc .hbm S12x2880x128 .bf16 := Memref.whole main_v0
abbrev mS : Memref sig .tc .hbm S23x1536x128 .bf16 := Memref.whole main_v2_1
abbrev mR : Memref sig .tc .vmem S12x2880x128 .bf16 := Memref.whole cc0_scratch0
abbrev mT : Memref sig .tc .vmem S23x1536x128 .bf16 := Memref.whole cc0_scratch1

/-- The twelve counters of the row copies, all at zero. -/
def rowSems (c : Dev nD) : sProp 𝕄 :=
  iprop(semVal ((c : Thread nD τ), SemLoc.dma 6) 0 ∗ semVal ((c : Thread nD τ), SemLoc.dma 7) 0 ∗ semVal ((c : Thread nD τ), SemLoc.dma 8) 0
    ∗ semVal ((c : Thread nD τ), SemLoc.dma 9) 0 ∗ semVal ((c : Thread nD τ), SemLoc.dma 10) 0 ∗ semVal ((c : Thread nD τ), SemLoc.dma 11) 0
    ∗ semVal ((c : Thread nD τ), SemLoc.dma 12) 0 ∗ semVal ((c : Thread nD τ), SemLoc.dma 13) 0 ∗ semVal ((c : Thread nD τ), SemLoc.dma 14) 0
    ∗ semVal ((c : Thread nD τ), SemLoc.dma 15) 0 ∗ semVal ((c : Thread nD τ), SemLoc.dma 16) 0 ∗ semVal ((c : Thread nD τ), SemLoc.dma 17) 0)

section Fill

variable (i : grid0.Coords) (M2 : Memref sig .tc .vmem S1440x512 .i8) (h2 : M2.IsWhole)
  (M3 : Memref sig .tc .vmem S45x16x512 .i16) (h3 : M3.IsWhole) (M4 : Memref sig .tc .vmem S1536x512 .f32) (h4 : M4.IsWhole)

set_option maxHeartbeats 0 in
/-- What the filling leaves in the scratch of `x` tiles, WITH the proof that it does. -/
noncomputable def fillRun (c : Dev nD) (fx : Bf (F := F) c mX) (f6 : Bf (F := F) c mR) :
    { X : Bf (F := F) c mT //
      ∀ (f7 : Bf (F := F) c mT) (W : Waits sig Unit) (Q : PUnit → sProp 𝕄),
        iprop(ptq c fullShare mX fx ∗ ptq c fullShare mR f6 ∗ ptq c fullShare mT f7 ∗ rowSems c ∗ owes (c : Thread nD τ) 0 W
          ∗ (iprop(ptq c fullShare mX fx ∗ (∃ f, ptq c fullShare mR f) ∗ ptq c fullShare mT X ∗ rowSems c
              ∗ (∃ W', owes (c : Thread nD τ) 0 W')) -∗ Q ⟨⟩))
        ⊢ wp frame (wpE (defs₀ (F := F)) Variants.none c none) Set.univ
            (fillPre i mX (Memref.isWhole_whole _) M2 h2 M3 h3 M4 h4 mS (Memref.isWhole_whole _) mR (Memref.isWhole_whole _)
              mT (Memref.isWhole_whole _) cc0_scratch2 cc0_scratch3) Q } := by
  refine ⟨?_, fun f7 W Q => ?run⟩
  case run =>
    unfold fillPre rowSems
    iintro ⟨HX, HR, HT, ⟨Hs0, Hs1, Hs2, Hs3, Hs4, Hs5, Hs6, Hs7, Hs8, Hs9, Hs10, Hs11⟩, HW, Hk⟩
    sl_exec_parts!
    sl_step
    iapply Hk
    isplitl [HX]; · iexact HX
    isplitl [HR]; · iexists _; iexact HR
    isplitl [HT]; · iexact HT
    isplitl [Hs0 Hs1 Hs2 Hs3 Hs4 Hs5 Hs6 Hs7 Hs8 Hs9 Hs10 Hs11]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      isplitl [Hs7]; · iexact Hs7
      isplitl [Hs8]; · iexact Hs8
      isplitl [Hs9]; · iexact Hs9
      isplitl [Hs10]; · iexact Hs10
      iexact Hs11
    iexists _; iexact HW

end Fill

end Cert.Proof.K

end
-- ==== Proof.Tiles.lean ====
/-
  The scratch of `x` tiles as a function of `x`: tile `k` holds, at row `128 b + s` and lane `j`, the element
  `(b, 128 k + j, s)` of the transposed input, and zero where `128 k + j` runs past the last of its 2880 rows.
-/
module

public import proofs.«01_k».proof.Proof.Fill
public import Idealize.ShloMosaic.Lib.ValueLayout
public import Idealize.ShloMosaic.Lib.WritesUnit

@[expose] public section

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

open Idealize.ShloMosaic.ValueIdx

/-! ## The copied rows -/

theorem slab_inb (n : ℕ) : ∀ a, (![n % 12, 0, 0] : Fin 3 → ℕ) a + S1x2880x128.size a ≤ S12x2880x128.size a := fun a =>
  match a with
  | 0 => Nat.succ_le_of_lt (Nat.mod_lt n (by decide))
  | 1 => le_rfl
  | 2 => le_rfl

/-- Slab `n` of a `[12, 2880, 128]` buffer, as a `[2880, 128]` one. -/
abbrev slab {sp : Space} (M : Memref sig .tc sp S12x2880x128 .bf16) (n : ℕ) : Memref sig .tc sp S2880x128 .bf16 :=
  (M.slice (Rect.unit (s := S12x2880x128) ![n % 12, 0, 0] S1x2880x128.size (slab_inb n)) (fun _ => rfl)).squeeze S2880x128 squeezes_S1x2880x128_S2880x128

/-- The scratch of copied rows once the first `n` slabs have arrived over `f6`. -/
def rows (c : Dev nD) (fx : Bf (F := F) c mX) (f6 : Bf (F := F) c mR) : ℕ → Bf (F := F) c mR
  | 0 => f6
  | n + 1 => View.write (Elt F) (slab mR n).view (rows c fx f6 n) (ReadAs.same.apply ((slab mX n).view.read (Elt F) fx)) Finset.univ

theorem slab_write (c : Dev nD) (fx : Bf (F := F) c mX) (f : Bf (F := F) c mR) (n : ℕ) (hn : n < 12) (y : S12x2880x128.Idx) :
    View.write (Elt F) (slab mR n).view f (ReadAs.same.apply ((slab mX n).view.read (Elt F) fx)) Finset.univ y
      = if (y 0).val = n then fx y else f y := by
  have hset : y ∈ (slab mR n).view.set ↔ (y 0).val = n := by
    rw [View.set_reshape]
    erw [View.set_slice_whole]
    rw [Rect.mem_set_unit]
    constructor
    · intro h
      have := h 0
      simp only [Matrix.cons_val_zero, Nat.mod_eq_of_lt hn] at this
      have h1 : S1x2880x128.size 0 = 1 := rfl
      omega
    · intro h a
      match a with
      | 0 => simp only [Matrix.cons_val_zero, Nat.mod_eq_of_lt hn]; exact ⟨h.ge, by rw [h]; exact Nat.lt_succ_self _⟩
      | 1 => exact ⟨Nat.zero_le _, by simpa using (y 1).isLt⟩
      | 2 => exact ⟨Nat.zero_le _, by simpa using (y 2).isLt⟩
  by_cases h : (y 0).val = n
  · rw [if_pos h]
    obtain ⟨x, -, hx⟩ := Finset.mem_map.mp (hset.mpr h)
    rw [← hx]
    erw [View.write_emb_of_mem _ _ (Finset.mem_univ x)]
    rfl
  · rw [if_neg h]
    exact View.write_of_not_mem _ _ _ (by rw [View.setOn_univ]; exact fun hy => h (hset.mp hy))

theorem rows_apply (c : Dev nD) (fx : Bf (F := F) c mX) (f6 : Bf (F := F) c mR) (n : ℕ) (hn : n ≤ 12) (y : S12x2880x128.Idx)
    (hy : (y 0).val < n) : rows c fx f6 n y = fx y := by
  induction n with
  | zero => exact absurd hy (Nat.not_lt_zero _)
  | succ n ih =>
    unfold rows
    rw [slab_write c fx _ n (by omega) y]
    split
    · rfl
    · exact ih (by omega) (by omega)

/-! ## The stores into the scratch of tiles -/

theorem tile_inb (n : ℕ) : ∀ a, (![n % 23, (n / 23 % 12) * 128, 0] : Fin 3 → ℕ) a + S1x128x128.size a ≤ S23x1536x128.size a := fun a =>
  match a with
  | 0 => Nat.succ_le_of_lt (Nat.mod_lt n (by decide))
  | 1 => by
      have := Nat.mod_lt (n / 23) (show 12 > 0 by decide)
      show n / 23 % 12 * 128 + 128 ≤ 1536
      omega
  | 2 => le_rfl
theorem boxFull_inb (n : ℕ) : ∀ a, (![n / 23 % 12, (n % 23 % 22) * 128, 0] : Fin 3 → ℕ) a + S1x128x128.size a ≤ S12x2880x128.size a := fun a =>
  match a with
  | 0 => Nat.succ_le_of_lt (Nat.mod_lt _ (by decide))
  | 1 => by
      have := Nat.mod_lt (n % 23) (show 22 > 0 by decide)
      show n % 23 % 22 * 128 + 128 ≤ 2880
      omega
  | 2 => le_rfl
theorem boxLast_inb (n : ℕ) : ∀ a, (![n / 23 % 12, 2816, 0] : Fin 3 → ℕ) a + S1x64x128.size a ≤ S12x2880x128.size a := fun a =>
  match a with
  | 0 => Nat.succ_le_of_lt (Nat.mod_lt _ (by decide))
  | 1 => by show 2816 + 64 ≤ 2880; decide
  | 2 => le_rfl

/-- The payload of store `n`: 128 copied rows transposed, the last tile of each slab padded with zero lanes. -/
def payload (c : Dev nD) (fx : Bf (F := F) c mX) (f6 : Bf (F := F) c mR) (n : ℕ) : S1x128x128.Idx → Elt F .bf16 :=
  if n % 23 = 22 then
    shapeCast S1x128x128 (concatenate S128x128 1
      [⟨S128x64, transpose S128x64 [1, 0] (shapeCast S64x128 (View.readAt (Elt F) mR.view
          (Rect.unit (s := S12x2880x128) ![n / 23 % 12, 2816, 0] S1x64x128.size (boxLast_inb n)).toLoadRect (rows c fx f6 12))
          shapeCasts_S1x64x128_S64x128) transposes_S64x128_p1_0_S128x64⟩,
       ⟨S128x64, broadcast S128x64 (FloatOps.ofBits (F := F) .bf16 0#16)⟩] concatenates_S128x64_S128x64_S128x128_d1) shapeCasts_S128x128_S1x128x128
  else
    shapeCast S1x128x128 (transpose S128x128 [1, 0] (shapeCast S128x128 (View.readAt (Elt F) mR.view
      (Rect.unit (s := S12x2880x128) ![n / 23 % 12, (n % 23 % 22) * 128, 0] S1x128x128.size (boxFull_inb n)).toLoadRect (rows c fx f6 12))
      shapeCasts_S1x128x128_S128x128) transposes_S128x128_p1_0_S128x128) shapeCasts_S128x128_S1x128x128

/-- The first `n` stores, the newest first. -/
def stores (c : Dev nD) (fx : Bf (F := F) c mX) (f6 : Bf (F := F) c mR) : ℕ → List (View.Piece (Elt F) S23x1536x128 .bf16)
  | 0 => []
  | n + 1 => ⟨Rect.unit (s := S23x1536x128) ![n % 23, (n / 23 % 12) * 128, 0] S1x128x128.size (tile_inb n), payload c fx f6 n⟩ :: stores c fx f6 n

theorem stores_eq (c : Dev nD) (fx : Bf (F := F) c mX) (f6 : Bf (F := F) c mR) : fillRun.sl.HT_276 c fx f6 = stores c fx f6 276 := by
  sl_kernel_rfl

/-! ## The scratch as a function of `x` -/

/-- The scratch of tiles. -/
def tiles (c : Dev nD) (fx : Bf (F := F) c mX) : Bf (F := F) c mT := fun (y : S23x1536x128.Idx) =>
  if h : (y 0).val * 128 + (y 2).val < 2880 then
    fx (ix3 (⟨(y 1).val / 128, by have := (y 1).isLt; have h1 : S23x1536x128.size 1 = 1536 := rfl; omega⟩ : Fin 12)
      (⟨(y 0).val * 128 + (y 2).val, h⟩ : Fin 2880) (⟨(y 1).val % 128, Nat.mod_lt _ (by decide)⟩ : Fin 128))
  else FloatOps.ofBits (F := F) .bf16 0#16

theorem payload_eq (c : Dev nD) (fx : Bf (F := F) c mX) (f6 : Bf (F := F) c mR) (n : ℕ) (hn : n < 276) (x : S1x128x128.Idx) :
    payload c fx f6 n x = tiles c fx ((Rect.unit (s := S23x1536x128) ![n % 23, (n / 23 % 12) * 128, 0] S1x128x128.size (tile_inb n)).emb x) := by
  have hb : n / 23 < 12 := by omega
  obtain ⟨u, s, j, rfl⟩ : ∃ (u : Fin 1) (s : Fin 128) (j : Fin 128), x = ix3 u s j := ⟨x 0, x 1, x 2, by funext a; fin_cases a <;> rfl⟩
  have hs := s.isLt
  have hj := j.isLt
  have hu : u.val = 0 := by omega
  unfold payload tiles
  have e0 : (((Rect.unit (s := S23x1536x128) ![n % 23, (n / 23 % 12) * 128, 0] S1x128x128.size (tile_inb n)).emb (ix3 u s j)) 0).val = n % 23 := by
    show n % 23 + 1 * u.val = _; omega
  have e1 : (((Rect.unit (s := S23x1536x128) ![n % 23, (n / 23 % 12) * 128, 0] S1x128x128.size (tile_inb n)).emb (ix3 u s j)) 1).val = n / 23 * 128 + s.val := by
    show n / 23 % 12 * 128 + 1 * s.val = _; omega
  have e2 : (((Rect.unit (s := S23x1536x128) ![n % 23, (n / 23 % 12) * 128, 0] S1x128x128.size (tile_inb n)).emb (ix3 u s j)) 2).val = j.val := by
    show 0 + 1 * j.val = _; omega
  split
  · next h22 =>
    rw [shapeCast_ab_1ab_apply]
    by_cases hj64 : j.val < 64
    · rw [concatenate_pair_apply_left (i := ix2 s (⟨j.val, hj64⟩ : Fin 64)) (t := S128x128) (s₁ := S128x64) (s₂ := S128x64) (a := 1) (hr := rfl) (hi := fun b => match b with | 0 => rfl | 1 => rfl)]
      rw [transpose_ix2_apply, shapeCast_1ab_ab_apply, dif_pos (by omega)]
      show rows c fx f6 12 _ = _
      rw [rows_apply c fx f6 12 le_rfl _ (by show n / 23 % 12 + 1 * 0 < 12; omega)]
      congr 1
      funext a
      apply Fin.ext
      match a with
      | 0 => show n / 23 % 12 + 1 * 0 = _ / 128; rw [e1]; omega
      | 1 => show 2816 + 1 * j.val = _ * 128 + _; rw [e0, e2]; omega
      | 2 => show 0 + 1 * s.val = _ % 128; rw [e1]; omega
    · rw [concatenate_pair_apply_right (i := ix2 s (⟨j.val - 64, by omega⟩ : Fin 64)) (t := S128x128) (s₁ := S128x64) (s₂ := S128x64) (a := 1) (hr := rfl) (hr₂ := rfl)
        (hi := fun b hb => match b with | 0 => rfl | 1 => absurd rfl hb) (ha := by show j.val - 64 + 64 = j.val; omega)]
      rw [dif_neg (by omega)]
      rfl
  · next h22 =>
    rw [shapeCast_ab_1ab_apply, transpose_ix2_apply, shapeCast_1ab_ab_apply, dif_pos (by omega)]
    show rows c fx f6 12 _ = _
    rw [rows_apply c fx f6 12 le_rfl _ (by show n / 23 % 12 + 1 * 0 < 12; omega)]
    congr 1
    funext a
    apply Fin.ext
    match a with
    | 0 => show n / 23 % 12 + 1 * 0 = _ / 128; rw [e1]; omega
    | 1 => show n % 23 % 22 * 128 + 1 * j.val = _ * 128 + _; rw [e0, e2]; omega
    | 2 => show 0 + 1 * s.val = _ % 128; rw [e1]; omega

theorem stores_pieces (c : Dev nD) (fx : Bf (F := F) c mX) (f6 : Bf (F := F) c mR) :
    ∀ n ≤ 276, ∀ p ∈ stores c fx f6 n, ∀ x : p.1.shape.Idx, p.2 x = tiles c fx (p.1.emb x)
  | 0, _, p, hp => absurd hp List.not_mem_nil
  | n + 1, hn, p, hp => by
    rcases List.mem_cons.mp hp with rfl | hp
    · exact payload_eq c fx f6 n (by omega)
    · exact stores_pieces c fx f6 n (by omega) p hp

theorem stores_mem (c : Dev nD) (fx : Bf (F := F) c mX) (f6 : Bf (F := F) c mR) (k : ℕ) :
    ∀ n, k < n → (⟨Rect.unit (s := S23x1536x128) ![k % 23, (k / 23 % 12) * 128, 0] S1x128x128.size (tile_inb k), payload c fx f6 k⟩ :
      View.Piece (Elt F) S23x1536x128 .bf16) ∈ stores c fx f6 n
  | 0, h => absurd h (Nat.not_lt_zero _)
  | n + 1, h => by
    rcases Nat.lt_succ_iff_lt_or_eq.mp h with h | rfl
    · exact List.mem_cons_of_mem _ (stores_mem c fx f6 k n h)
    · exact List.mem_cons_self

theorem writes_stores (c : Dev nD) (fx : Bf (F := F) c mX) (f6 : Bf (F := F) c mR) (n : ℕ) (hn : n = 276) :
    mT.view.writes (Elt F) mT.view.junk (stores c fx f6 n) = tiles c fx := by
  funext (y : S23x1536x128.Idx)
  have h0 : (y 0).val < 23 := (y 0).isLt
  have h1 : (y 1).val < 1536 := (y 1).isLt
  have h2 : (y 2).val < 128 := (y 2).isLt
  have hm := stores_mem c fx f6 ((y 1).val / 128 * 23 + (y 0).val) n (by omega)
  have hy : y ∈ (Rect.unit (s := S23x1536x128) ![((y 1).val / 128 * 23 + (y 0).val) % 23, (((y 1).val / 128 * 23 + (y 0).val) / 23 % 12) * 128, 0]
      S1x128x128.size (tile_inb ((y 1).val / 128 * 23 + (y 0).val))).set := by
    rw [Rect.mem_set_unit]
    intro a
    match a with
    | 0 => show _ % 23 ≤ (y 0).val ∧ (y 0).val < _ % 23 + 1; omega
    | 1 => show _ / 23 % 12 * 128 ≤ (y 1).val ∧ (y 1).val < _ / 23 % 12 * 128 + 128; omega
    | 2 => show 0 ≤ (y 2).val ∧ (y 2).val < 0 + 128; omega
  exact View.read_writes_apply_of_pieces mT.view mT.view.junk (tiles c fx) _ (stores_pieces c fx f6 n hn.le) y ⟨_, hm, hy⟩

theorem fill_tiles (c : Dev nD) (fx : Bf (F := F) c mX) (f6 : Bf (F := F) c mR) :
    mT.view.writes (Elt F) mT.view.junk (fillRun.sl.HT_276 c fx f6) = tiles c fx :=
  (congrArg _ (stores_eq c fx f6)).trans (writes_stores c fx f6 276 rfl)

/-- What the filling leaves in the scratch of tiles is the function `tiles` of what was copied in. -/
theorem fillRun_eq (i : grid0.Coords) (M2 : Memref sig .tc .vmem S1440x512 .i8) (h2 : M2.IsWhole)
    (M3 : Memref sig .tc .vmem S45x16x512 .i16) (h3 : M3.IsWhole) (M4 : Memref sig .tc .vmem S1536x512 .f32) (h4 : M4.IsWhole)
    (c : Dev nD) (fx : Bf (F := F) c mX) (f6 : Bf (F := F) c mR) :
    (fillRun i M2 h2 M3 h3 M4 h4 c fx f6).1 = tiles c fx := fill_tiles c fx f6

end Cert.Proof.K

end
-- ==== Proof.Cond.lean ====
/-
  What the two conditionals of the body do at each grid point: the first point fills the scratch and starts the copy of
  it to the second result, the last point waits for that copy, and the points between do nothing.
-/
module

public import proofs.«01_k».proof.Proof.Tiles

@[expose] public section

set_option sl_exec.dmaWindow true

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

section Cond

variable (i : grid0.Coords) (M2 : Memref sig .tc .vmem S1440x512 .i8) (h2 : M2.IsWhole)
  (M3 : Memref sig .tc .vmem S45x16x512 .i16) (h3 : M3.IsWhole) (M4 : Memref sig .tc .vmem S1536x512 .f32) (h4 : M4.IsWhole)

/-- The copy of the scratch of tiles to the second result in flight: it holds the result's array and the right half of the
    scratch, which comes back at its arrival. -/
def saving (c : Dev nD) (X : Bf (F := F) c mT) : sProp 𝕄 :=
  iprop(∃ fs : Bf (F := F) c mS, Transfers.Flight countersEmb (c : Thread nD τ) (SemLoc.dma 18) default 282624
    iprop((View.loc (c : Thread nD τ) mS.view ↦{fullShare} View.write (Elt F) mS.view fs (ReadAs.same.apply (View.read (Elt F) mT.view X)) Finset.univ) ∗
        View.loc (c : Thread nD τ) mT.view ↦[mT.view.set]{fullShare.right} X)
    ∗ View.loc (c : Thread nD τ) mT.view ↦[Finset.univ \ mT.view.set]{fullShare.right} X)

set_option sl_exec.lendShare "HT" in
theorem save_start (c : Dev nD) (X : Bf (F := F) c mT) (fs : Bf (F := F) c mS) (W : Waits sig Unit) (Q : PUnit → sProp 𝕄) :
    iprop(ptq c fullShare mT X ∗ ptq c fullShare mS fs ∗ semVal ((c : Thread nD τ), SemLoc.dma 18) 0 ∗ owes (c : Thread nD τ) 0 W
      ∗ (iprop(ptq c fullShare.left mT X ∗ saving c X ∗ ∃ W', owes (c : Thread nD τ) 0 W') -∗ Q ⟨⟩))
    ⊢ wp frame (wpE (defs₀ (F := F)) Variants.none c none) Set.univ
      (Prog.lift (.enqueueDma mT (.here mS) (.dma cc0_scratch3.sem) (Memref.isWhole_whole cc0_scratch1).wordExact (Memref.isWhole_whole main_v2_1).wordExact ⟨Or.inl rfl, trivial⟩) >>= fun _ => pure ⟨⟩) Q := by
  iintro ⟨HT, HS, H18, HW, Hk⟩
  sl_exec
  sl_step
  iapply Hk
  isplitl [HT]; · iexact HT
  isplitr [HW]
  · unfold saving
    iexists fs
    isplitl [H18]; · iexact H18
    iexact HT_lend
  iexists _; iexact HW

/-- The second result after the copy. -/
def saved (c : Dev nD) (fx : Bf (F := F) c mX) : Bf (F := F) c mS := tiles c fx

theorem write_saved (c : Dev nD) (fx : Bf (F := F) c mX) (fs : Bf (F := F) c mS) :
    View.write (Elt F) mS.view fs (ReadAs.same.apply (View.read (Elt F) mT.view (tiles c fx))) Finset.univ = saved c fx :=
  ((Memref.isWhole_whole main_v2_1).eq_unread (View.read_write_univ _ _)).trans
    ((Memref.isWhole_whole main_v2_1).eq_unread (f := saved c fx) rfl).symm

/-- What the body holds beside its blocks while no copy is in flight, `S` being what it holds of the second result. -/
def idle (c : Dev nD) (fx : Bf (F := F) c mX) (S : sProp 𝕄) : sProp 𝕄 :=
  iprop(ptq c fullShare mX fx ∗ (∃ f, ptq c fullShare mR f) ∗ (∃ f, ptq c fullShare mT f) ∗ S
    ∗ rowSems c ∗ semVal ((c : Thread nD τ), SemLoc.dma 18) 0)

/-- The second result before the copy, and after it. -/
def unsavedS (c : Dev nD) : sProp 𝕄 := iprop(∃ f, ptq (F := F) c fullShare mS f)
def savedS (c : Dev nD) (fx : Bf (F := F) c mX) : sProp 𝕄 := ptq c fullShare mS (saved c fx)

/-- What it holds, beside its blocks and the readable half of the scratch of tiles, while the copy is in flight. -/
def busy (c : Dev nD) (fx : Bf (F := F) c mX) : sProp 𝕄 :=
  iprop(ptq c fullShare mX fx ∗ (∃ f, ptq c fullShare mR f) ∗ rowSems c ∗ saving c (tiles c fx))

/-- The same with what the core owes. -/
def held0 (c : Dev nD) (fx : Bf (F := F) c mX) (S : sProp 𝕄) : sProp 𝕄 := iprop(idle c fx S ∗ (∃ W, owes (c : Thread nD τ) 0 W))
def held1 (c : Dev nD) (fx : Bf (F := F) c mX) : sProp 𝕄 := iprop(busy c fx ∗ (∃ W, owes (c : Thread nD τ) 0 W))

theorem fill_first (hi : (i 0).val = 0) (c : Dev nD) (fx : Bf (F := F) c mX) :
    held0 c fx (unsavedS c) ⊢ wp frame (wpE (defs₀ (F := F)) Variants.none c none) Set.univ
      (fillProg i mX (Memref.isWhole_whole _) M2 h2 M3 h3 M4 h4 mS (Memref.isWhole_whole _) mR (Memref.isWhole_whole _)
              mT (Memref.isWhole_whole _) cc0_scratch2 cc0_scratch3) (fun _ => iprop(ptq c fullShare.left mT (tiles c fx) ∗ held1 c fx)) := by
  unfold fillProg held0 idle unsavedS
  rw [if_pos (by rw [hi]; decide), wp_bind]
  iintro ⟨⟨HX, ⟨%f6, HR⟩, ⟨%f7, HT⟩, ⟨%fs, HS⟩, Hs, H18⟩, ⟨%W, HW⟩⟩
  iapply (fillRun i M2 h2 M3 h3 M4 h4 c fx f6).2 f7 W
  rw [fillRun_eq]
  isplitl [HX]; · iexact HX
  isplitl [HR]; · iexact HR
  isplitl [HT]; · iexact HT
  isplitl [Hs]; · iexact Hs
  isplitl [HW]; · iexact HW
  iintro ⟨HX, HR, HT, Hs, ⟨%W', HW⟩⟩
  iapply save_start c (tiles c fx) fs W'
  isplitl [HT]; · iexact HT
  isplitl [HS]; · iexact HS
  isplitl [H18]; · iexact H18
  isplitl [HW]; · iexact HW
  iintro ⟨HT, Hsv, HW⟩
  isplitl [HT]; · iexact HT
  unfold held1 busy
  isplitr [HW]
  · isplitl [HX]; · iexact HX
    isplitl [HR]; · iexact HR
    isplitl [Hs]; · iexact Hs
    iexact Hsv
  iexact HW

theorem fill_later (hi : 0 < (i 0).val) (c : Dev nD) (R : sProp 𝕄) :
    R ⊢ wp frame (wpE (defs₀ (F := F)) Variants.none c none) Set.univ
      (fillProg i mX (Memref.isWhole_whole _) M2 h2 M3 h3 M4 h4 mS (Memref.isWhole_whole _) mR (Memref.isWhole_whole _)
              mT (Memref.isWhole_whole _) cc0_scratch2 cc0_scratch3) (fun _ => R) := by
  unfold fillProg
  have hi' : (i 0).val < 10 := (i 0).isLt
  rw [if_neg (by generalize (i 0).val = n at hi hi'; interval_cases n <;> decide)]
  iintro HR
  sl_step
  iexact HR

theorem close_earlier (hi : (i 0).val < 9) (c : Dev nD) (R : sProp 𝕄) :
    R ⊢ wp frame (wpE (defs₀ (F := F)) Variants.none c none) Set.univ
      (closeProg i mS (Memref.isWhole_whole _) mT (Memref.isWhole_whole _) cc0_scratch3) (fun _ => R) := by
  unfold closeProg
  rw [if_neg (by generalize (i 0).val = n at hi; interval_cases n <;> decide)]
  iintro HR
  sl_step
  iexact HR

theorem close_last (hi : (i 0).val = 9) (c : Dev nD) (fx : Bf (F := F) c mX) :
    iprop(ptq c fullShare.left mT (tiles c fx) ∗ held1 c fx) ⊢ wp frame (wpE (defs₀ (F := F)) Variants.none c none) Set.univ
      (closeProg i mS (Memref.isWhole_whole _) mT (Memref.isWhole_whole _) cc0_scratch3) (fun _ => held0 c fx (savedS c fx)) := by
  unfold closeProg held1 busy saving
  rw [if_pos (by rw [hi]; decide)]
  iintro ⟨HT, ⟨HX, HR, Hs, ⟨%fs, H18, HT_lend⟩⟩, ⟨%W, HW⟩⟩
  sl_exec
  sl_step
  unfold held0 idle savedS
  rw [← write_saved c fx fs]
  isplitr [HW]
  · isplitl [HX]; · iexact HX
    isplitl [HR]; · iexact HR
    isplitl [HT HT_lend]
    · iexists tiles c fx
      iapply (pointsTo_share (PosShare.mem_left_op_right fullShare)).2
      isplitl [HT]; · iexact HT
      iexact HT_lend
    isplitl [H18_dst]; · iexact H18_dst
    isplitl [Hs]; · iexact Hs
    iexact H18
  iexists _; iexact HW

end Cond
end Cert.Proof.K

end
-- ==== Proof.Frame.lean ====
/-
  The run of the dense call: it terminates, nothing faults, its arguments end unchanged, every counter ends at zero, and
  each block of its first result is what the body leaves at that block's grid point, and its second is the scratch of tiles.
-/
module

public import proofs.«01_k».proof.Proof.Lump
public import proofs.«01_k».proof.Proof.Cond
public import proofs.«01_k».proof.Proof.Gen.Kernel.Frame
public import Idealize.ShloMosaic.Lib.WholeRead
public import Idealize.ShloMosaic.Lib.Pipeline.FrameValue

@[expose] public section

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (Pipeline.UD sig nD τ) ℕ

section Body

variable (i : grid0.Coords) (M2 : Memref sig .tc .vmem S1440x512 .i8) (h2 : M2.IsWhole)
  (M3 : Memref sig .tc .vmem S45x16x512 .i16) (h3 : M3.IsWhole) (M4 : Memref sig .tc .vmem S1536x512 .f32) (h4 : M4.IsWhole)

/-- What the body leaves in the result's block, from the two input blocks and the scratch of tiles. -/
def outBlk (c : Dev nD) (d2 : S1440x512.Idx → Elt F .i8) (d3 : S45x16x512.Idx → Elt F .i16) (X : Bf (F := F) c mT) : S1536x512.Idx → Elt F .f32 :=
  M4.view.read (Elt F) (lumpRun i mX (Memref.isWhole_whole _) M2 h2 M3 h3 M4 h4 mS (Memref.isWhole_whole _) mR (Memref.isWhole_whole _)
    mT (Memref.isWhole_whole _) cc0_scratch2 cc0_scratch3 c fullShare.left (h2.unread d2) (h3.unread d3) X).1

theorem body_at (c : Dev nD) (fx : Bf (F := F) c mX) (d2 : S1440x512.Idx → Elt F .i8) (d3 : S45x16x512.Idx → Elt F .i16) (P P' : sProp 𝕄)
    (hfill : P ⊢ wp frame (wpE (defs₀ (F := F)) Variants.none c none) Set.univ
      (fillProg i mX (Memref.isWhole_whole _) M2 h2 M3 h3 M4 h4 mS (Memref.isWhole_whole _) mR (Memref.isWhole_whole _)
              mT (Memref.isWhole_whole _) cc0_scratch2 cc0_scratch3) (fun _ => iprop(ptq c fullShare.left mT (tiles c fx) ∗ held1 c fx)))
    (hclose : iprop(ptq c fullShare.left mT (tiles c fx) ∗ held1 c fx) ⊢ wp frame (wpE (defs₀ (F := F)) Variants.none c none) Set.univ
      (closeProg i mS (Memref.isWhole_whole _) mT (Memref.isWhole_whole _) cc0_scratch3) (fun _ => P')) :
    iprop(P ∗ owns (c : Thread nD τ) M2 fullShare d2 ∗ owns (c : Thread nD τ) M3 fullShare d3 ∗ (∃ d, owns (c : Thread nD τ) M4 fullShare d))
    ⊢ wp frame (wpE (defs₀ (F := F)) Variants.none c none) Set.univ
      (cc0_dense_matmul i mX (Memref.isWhole_whole _) M2 h2 M3 h3 M4 h4 mS (Memref.isWhole_whole _) mR (Memref.isWhole_whole _)
              mT (Memref.isWhole_whole _) cc0_scratch2 cc0_scratch3)
      (fun _ => iprop(P' ∗ owns (c : Thread nD τ) M2 fullShare d2 ∗ owns (c : Thread nD τ) M3 fullShare d3
        ∗ owns (c : Thread nD τ) M4 fullShare (outBlk i M2 h2 M3 h3 M4 h4 c d2 d3 (tiles c fx)))) := by
  unfold owns
  rw [h2.set_eq_univ, h3.set_eq_univ, h4.set_eq_univ]
  iintro ⟨HP, ⟨%f2, %e2, H2⟩, ⟨%f3, %e3, H3⟩, ⟨%d4, %f4, -, H4⟩⟩
  obtain rfl := h2.eq_unread e2
  obtain rfl := h3.eq_unread e3
  iapply (lumpRun i mX (Memref.isWhole_whole _) M2 h2 M3 h3 M4 h4 mS (Memref.isWhole_whole _) mR (Memref.isWhole_whole _)
    mT (Memref.isWhole_whole _) cc0_scratch2 cc0_scratch3 c fullShare.left (h2.unread d2) (h3.unread d3) (tiles c fx)).2 f4 P (held1 c fx) P' Set.univ _ hfill hclose
  isplitl [HP]; · iexact HP
  isplitl [H2]; · iexact H2
  isplitl [H3]; · iexact H3
  isplitl [H4]; · iexact H4
  iintro ⟨HP, H2, H3, H4⟩
  isplitl [HP]; · iexact HP
  isplitl [H2]
  · iexists _; isplitr; swap; · iexact H2
    ipureintro; exact e2
  isplitl [H3]
  · iexists _; isplitr; swap; · iexact H3
    ipureintro; exact e3
  iexists _; isplitr; swap; · iexact H4
  ipureintro; rfl

end Body

variable (m : (ℓ : Loc nD τ sig) → Buf (Elt F) ℓ) (ρ : Dev nD → PrngReg)

/-! ## The buffers and counters the body uses beside its blocks -/

/-- The array the body's copy writes, and the array its copies read. -/
def R0 : Finset (Ref sig .tc) := {main_v2_1}
def H0 : Finset (Ref sig .tc) := {main_v0}
abbrev osem0 : Fin 13 → SemLoc sig := fun j => (![SemLoc.dma 6, SemLoc.dma 7, SemLoc.dma 8, SemLoc.dma 9, SemLoc.dma 10, SemLoc.dma 11, SemLoc.dma 12,
  SemLoc.dma 13, SemLoc.dma 14, SemLoc.dma 15, SemLoc.dma 16, SemLoc.dma 17, SemLoc.dma 18] : Fin 13 → SemLoc sig) j
theorem ownSemFacts0 : Pipeline.OwnSemFacts spec0 osem0 := by decide
theorem H0_sub : H0 ⊆ Pipeline.restRefs sig spec0 := by decide
theorem R0_sub : R0 ⊆ Pipeline.restRefs sig spec0 \ H0 := by decide

theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 6) 0 ∗ semVal ((c : Thread nD τ), SemLoc.dma 7) 0 ∗ semVal ((c : Thread nD τ), SemLoc.dma 8) 0
    ∗ semVal ((c : Thread nD τ), SemLoc.dma 9) 0 ∗ semVal ((c : Thread nD τ), SemLoc.dma 10) 0 ∗ semVal ((c : Thread nD τ), SemLoc.dma 11) 0
    ∗ semVal ((c : Thread nD τ), SemLoc.dma 12) 0 ∗ semVal ((c : Thread nD τ), SemLoc.dma 13) 0 ∗ semVal ((c : Thread nD τ), SemLoc.dma 14) 0
    ∗ semVal ((c : Thread nD τ), SemLoc.dma 15) 0 ∗ semVal ((c : Thread nD τ), SemLoc.dma 16) 0 ∗ semVal ((c : Thread nD τ), SemLoc.dma 17) 0
    ∗ semVal ((c : Thread nD τ), SemLoc.dma 18) 0) := by
  rw [Pipeline.ownSems0_eq_of_list c osem0 [0, 1, 2, 3, 4, 5, 6, 7, 8, 9, 10, 11, 12] (by decide) (by decide)]; rfl

theorem PhiDRG0_eq (G : (c : Dev nD) → (b : Ref sig .tc) → Buf (Elt F) ((c.tc : Thread nD τ).loc b)) (c : Dev nD) :
    (Pipeline.ΦDRG osem0 spec0 H0 R0 (V m) G c : sProp 𝕄)
      = iprop(iprop((∃ f, ptq (F := F) c fullShare mR f) ∗ (∃ f, ptq (F := F) c fullShare mT f))
          ∗ (∃ r, prngReg c r)
          ∗ iprop(semVal ((c : Thread nD τ), SemLoc.dma 6) 0 ∗ semVal ((c : Thread nD τ), SemLoc.dma 7) 0 ∗ semVal ((c : Thread nD τ), SemLoc.dma 8) 0
    ∗ semVal ((c : Thread nD τ), SemLoc.dma 9) 0 ∗ semVal ((c : Thread nD τ), SemLoc.dma 10) 0 ∗ semVal ((c : Thread nD τ), SemLoc.dma 11) 0
    ∗ semVal ((c : Thread nD τ), SemLoc.dma 12) 0 ∗ semVal ((c : Thread nD τ), SemLoc.dma 13) 0 ∗ semVal ((c : Thread nD τ), SemLoc.dma 14) 0
    ∗ semVal ((c : Thread nD τ), SemLoc.dma 15) 0 ∗ semVal ((c : Thread nD τ), SemLoc.dma 16) 0 ∗ semVal ((c : Thread nD τ), SemLoc.dma 17) 0
    ∗ semVal ((c : Thread nD τ), SemLoc.dma 18) 0)
          ∗ ptq (F := F) c fullShare mX (V m c main_v0)
          ∗ ptq (F := F) c fullShare mS (G c main_v2_1)) := by
  rw [Pipeline.ΦDRG_eq, scopedRest0_eq, ownSems00_eq]
  unfold Pipeline.routed
  rw [BI.bigSep_eq_bigSepL_of_eq [main_v0] (by decide) (by decide), BI.bigSep_eq_bigSepL_of_eq [main_v2_1] (by decide) (by decide)]; rfl

/-- What the body holds beside its blocks before point `n`, and after the last. -/
def between (c : Dev nD) (n : ℕ) : sProp 𝕄 :=
  if n = 0 then idle c (V m c main_v0) (unsavedS c)
  else if n = 10 then idle c (V m c main_v0) (savedS c (V m c main_v0))
  else iprop(ptq c fullShare.left mT (tiles c (V m c main_v0)) ∗ busy c (V m c main_v0))

/-- The contents after the last point: those before the first, but for the second result. -/
def G (c : Dev nD) : (b : Ref sig .tc) → Buf (Elt F) ((c.tc : Thread nD τ).loc b) :=
  Function.update (V m c) main_v2_1 (saved c (V m c main_v0))

theorem G_eq (c : Dev nD) : G m c main_v2_1 = saved c (V m c main_v0) := Function.update_self ..

theorem idle_of_PhiDR (c : Dev nD) : (Pipeline.ΦDRG osem0 spec0 H0 R0 (V m) (V m) c : sProp 𝕄) ⊢ iprop((∃ r, prngReg c r) ∗ idle c (V m c main_v0) (unsavedS c)) := by
  rw [PhiDRG0_eq]; unfold idle rowSems unsavedS
  iintro ⟨⟨HR, HT⟩, Hg, ⟨Hs0, Hs1, Hs2, Hs3, Hs4, Hs5, Hs6, Hs7, Hs8, Hs9, Hs10, Hs11, H18⟩, HX, HS⟩
  isplitl [Hg]; · iexact Hg
  isplitl [HX]; · iexact HX
  isplitl [HR]; · iexact HR
  isplitl [HT]; · iexact HT
  isplitl [HS]; · iexists _; iexact HS
  isplitr [H18]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    iexact Hs11
  iexact H18

theorem PhiDR_of_idle (c : Dev nD) : iprop((∃ r, prngReg c r) ∗ idle c (V m c main_v0) (savedS c (V m c main_v0))) ⊢ (Pipeline.ΦDRG osem0 spec0 H0 R0 (V m) (G m) c : sProp 𝕄) := by
  rw [PhiDRG0_eq, G_eq]; unfold idle rowSems savedS
  iintro ⟨Hg, HX, HR, HT, HS, ⟨Hs0, Hs1, Hs2, Hs3, Hs4, Hs5, Hs6, Hs7, Hs8, Hs9, Hs10, Hs11⟩, H18⟩
  isplitl [HR HT]
  · isplitl [HR]; · iexact HR
    iexact HT
  isplitl [Hg]; · iexact Hg
  isplitr [HX HS]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    iexact H18
  isplitl [HX]; · iexact HX
  iexact HS

/-! ## The proof data and the body obligation -/

abbrev ms0_0 (t : Fin cfg0.N) : Memref sig .tc .vmem S1440x512 .i8 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S45x16x512 .i16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1536x512 .f32 := win0_2.stage (cfg0.slots t 2)
abbrev hs0_2 (t : Fin cfg0.N) : (ms0_2 t).IsWhole := hstage0_2 ((cfg0.slots t 2).cast nbuf0_2)

/-- The result's block at a point: what the body leaves there. -/
def outAt (c : Dev nD) (t : Fin cfg0.N) : S1536x512.Idx → Elt F .f32 :=
  outBlk (grid0.coords t) (ms0_0 t) (hs0_0 t) (ms0_1 t) (hs0_1 t) (ms0_2 t) (hs0_2 t) c (iblk m c 0 t) (iblk m c 1 t) (tiles c (V m c main_v0))

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ t := iprop((∃ r, prngReg c r) ∗ between m c t.val)
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outAt m c t := by dsimp only [dats]

theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

theorem coords_val : ∀ t : Fin cfg0.N, (grid0.coords t 0).val = t.val := by decide

/-- What is held beside the blocks, with what the core owes. -/
def betweenW (c : Dev nD) (n : ℕ) : sProp 𝕄 := iprop(between m c n ∗ (∃ W, owes (c : Thread nD τ) 0 W))

theorem betweenW_first (c : Dev nD) {n : ℕ} (h : n = 0) : betweenW m c n = held0 c (V m c main_v0) (unsavedS c) := by
  unfold betweenW between held0; rw [if_pos h]

theorem betweenW_last (c : Dev nD) {n : ℕ} (h : n = 10) : betweenW m c n = held0 c (V m c main_v0) (savedS c (V m c main_v0)) := by
  unfold betweenW between held0; rw [if_neg (by omega), if_pos h]

theorem of_betweenW (c : Dev nD) {n : ℕ} (h : ¬ (n = 0 ∨ n = 10)) :
    betweenW m c n ⊢ iprop(ptq c fullShare.left mT (tiles c (V m c main_v0)) ∗ held1 c (V m c main_v0)) := by
  unfold betweenW between held1; rw [if_neg (by omega), if_neg (by omega)]
  iintro ⟨⟨HT, HB⟩, HW⟩
  isplitl [HT]; · iexact HT
  isplitl [HB]; · iexact HB
  iexact HW

theorem to_betweenW (c : Dev nD) {n : ℕ} (h : ¬ (n = 0 ∨ n = 10)) :
    iprop(ptq c fullShare.left mT (tiles c (V m c main_v0)) ∗ held1 c (V m c main_v0)) ⊢ betweenW m c n := by
  unfold betweenW between held1; rw [if_neg (by omega), if_neg (by omega)]
  iintro ⟨HT, HB, HW⟩
  isplitr [HW]
  · isplitl [HT]; · iexact HT
    iexact HB
  iexact HW

theorem fill_at (c : Dev nD) (t : Fin cfg0.N) (M2 : Memref sig .tc .vmem S1440x512 .i8) (h2 : M2.IsWhole)
    (M3 : Memref sig .tc .vmem S45x16x512 .i16) (h3 : M3.IsWhole) (M4 : Memref sig .tc .vmem S1536x512 .f32) (h4 : M4.IsWhole) :
    betweenW m c t.val ⊢ wp frame (wpE (defs₀ (F := F)) Variants.none c none) Set.univ
      (fillProg (grid0.coords t) mX (Memref.isWhole_whole _) M2 h2 M3 h3 M4 h4 mS (Memref.isWhole_whole _) mR (Memref.isWhole_whole _)
              mT (Memref.isWhole_whole _) cc0_scratch2 cc0_scratch3)
      (fun _ => iprop(ptq c fullShare.left mT (tiles c (V m c main_v0)) ∗ held1 c (V m c main_v0))) := by
  have ht : t.val < 10 := t.isLt
  by_cases h : t.val = 0
  · rw [betweenW_first m c h]
    exact fill_first _ M2 h2 M3 h3 M4 h4 ((coords_val t).trans h) c _
  · exact (of_betweenW m c (by omega)).trans (fill_later _ M2 h2 M3 h3 M4 h4 (by rw [coords_val]; omega) c _)

theorem close_at (c : Dev nD) (t : Fin cfg0.N) :
    iprop(ptq c fullShare.left mT (tiles c (V m c main_v0)) ∗ held1 c (V m c main_v0)) ⊢ wp frame (wpE (defs₀ (F := F)) Variants.none c none) Set.univ
      (closeProg (grid0.coords t) mS (Memref.isWhole_whole _) mT (Memref.isWhole_whole _) cc0_scratch3) (fun _ => betweenW m c (t.val + 1)) := by
  have ht : t.val < 10 := t.isLt
  by_cases h : t.val = 9
  · rw [betweenW_last m c (by omega)]
    exact close_last _ ((coords_val t).trans h) c _
  · exact (to_betweenW m c (by omega)).trans (close_earlier _ (by rw [coords_val]; omega) c _)

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [after0_0, after0_1, after0_2]
  rw [show (dats m 0 c).Φ t.succ = iprop((∃ r, prngReg c r) ∗ between m c (t.val + 1)) from rfl,
    show (dats m 0 c).Φ t.castSucc = iprop((∃ r, prngReg c r) ∗ between m c t.val) from rfl]
  unfold Dat.owesAt Pipeline.owesWithin
  rw [show (dats m 0 c).owed t.castSucc = 0 from rfl, show (dats m 0 c).owed t.succ = 0 from rfl]
  unfold outAt
  iintro ⟨⟨Hg, HB⟩, ⟨%W, -, HW⟩, ⟨%d0, H0⟩, ⟨%d1, H1⟩, ⟨%d2, H2⟩⟩
  iapply (wp_wand_r _ _ _)
  isplitr [Hg]
  · iapply body_at (grid0.coords t) (ms0_0 t) (hs0_0 t) (ms0_1 t) (hs0_1 t) (ms0_2 t) (hs0_2 t) c (V m c main_v0) (iblk m c 0 t) (iblk m c 1 t)
      (betweenW m c t.val) (betweenW m c (t.val + 1)) (fill_at m c t _ _ _ _ _ _) (close_at m c t)
    unfold betweenW
    isplitl [HB HW]
    · isplitl [HB]; · iexact HB
      iexists W; iexact HW
    isplitl [H0]; · iexact H0
    isplitl [H1]; · iexact H1
    iexists _; iexact H2
  unfold betweenW
  iintro %_ ⟨⟨HB, ⟨%W', HW'⟩⟩, H0, H1, H2⟩
  isplitl [Hg HB]
  · isplitl [Hg]; · iexact Hg
    iexact HB
  isplitl [HW']
  · iexists W'; isplitr; · ipureintro; exact fun _ _ => Or.inl trivial
    iexact HW'
  isplitl [H0]; · iexact H0
  isplitl [H1]; · iexact H1
  iexact H2

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
theorem run_main : θ_run defs (onTc (τ := τ) (main (F := F))) (s₀ m ρ) (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := A_eq m) (G := G m)
    (hin := fun c => idle_of_PhiDR m c) (hout := fun c => PhiDR_of_idle m c)

/-- Every argument ends as launched and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1.1 c).2 main_arg0 (Finset.mem_sdiff.mpr ⟨Pipeline.mem_restRefs_of main_arg0 (by decide) (by decide), by decide⟩)).trans (V_main_arg0 m c),
      ((h.1.1 c).1 0).trans (((dats m 0 c).arrAt_in 0 rfl _).trans ((A_eq m c 0).trans (V_main_arg1 m c))),
      ((h.1.1 c).2 main_arg2 (Finset.mem_sdiff.mpr ⟨Pipeline.mem_restRefs_of main_arg2 (by decide) (by decide), by decide⟩)).trans (V_main_arg2 m c)⟩, h.2⟩) (run_main m ρ)

end Cert.Proof.K

end
-- ==== Proof.Model.lean ====
/-
  The products of one grid point as functions of the two input blocks and the scratch of `x` tiles: the decoding of one
  group of codes, the weight tile and the `x` tile of one step, the two matrix units' state after each step, and the
  list of blocks stored into the result.
-/
module

public import proofs.«01_k».proof.Proof.Lump
public import Idealize.ShloMosaic.Lib.Mxu.Lemmas

@[expose] public section

noncomputable section

namespace Cert.Proof.K

open Cert.Kernel Cert.Kernel.Gen
open Idealize.ShloMosaic Idealize.ShloMosaic.TcCoe Idealize.ShloMosaic.Tactic
open Idealize.SL Idealize.SL.RA Idealize.SL.BI
open Idealize.SL.Sem

variable {F : FTy → Type} [FloatOps F]

/-! ## Decoding -/

/-- A table row index, with the wrap-around of negative indices that the gather is printed with. -/
def wrap8 (v : IVec S8x128 32) : IVec S8x128 32 :=
  shapeCast S8x128 (shapeCast S8x128x1 (select (cmpi .slt v (broadcast S8x128 0#32)) (addi v (broadcast S8x128 8#32)) v)
    shapeCasts_S8x128_S8x128x1) shapeCasts_S8x128x1_S8x128

/-- Sixteen rows of weights from eight rows of codes: two rows of a code's two halves, gathered from the table of
    level pairs. -/
def octet (tab cq : IVec S8x128 32) : FVec F S16x128 .bf16 :=
  bitcastToFloat .bf16 (bitcast S16x128 16 (packElementwiseI16
    (shrui (dynamicGather 0 tab (wrap8 (andi (shrsi cq (broadcast S8x128 1#32)) (broadcast S8x128 7#32))))
      (andi (shli cq (broadcast S8x128 4#32)) (broadcast S8x128 16#32)))
    (shrui (dynamicGather 0 tab (wrap8 (shrsi cq (broadcast S8x128 5#32)))) (andi cq (broadcast S8x128 16#32))))
    bitcasts_S8x128_w32_S16x128_w16)

/-- The sixteen levels of a group as eight rows of pairs. -/
def levels (w : Vec F S1x16x128 .i16) : IVec S8x128 32 :=
  bitcast S8x128 32 (shapeCast S16x128 (w : IVec S1x16x128 16) shapeCasts_S1x16x128_S16x128) bitcasts_S16x128_w16_S8x128_w32

/-- The 64 rows of weights of one group, at 128 columns. -/
def group (w : Vec F S1x16x128 .i16) (cs : Vec F S32x128 .i8) : FVec F S64x128 .bf16 :=
  concatenate S64x128 0
    [⟨S16x128, octet (levels w) (extractStridedSlice S8x128 ![0, 0] (extui 32 (cs : IVec S32x128 8) natLt_8_32) slices_S32x128_o0_0_S8x128)⟩,
     ⟨S16x128, octet (levels w) (extractStridedSlice S8x128 ![8, 0] (extui 32 (cs : IVec S32x128 8) natLt_8_32) slices_S32x128_o8_0_S8x128)⟩,
     ⟨S16x128, octet (levels w) (extractStridedSlice S8x128 ![16, 0] (extui 32 (cs : IVec S32x128 8) natLt_8_32) slices_S32x128_o16_0_S8x128)⟩,
     ⟨S16x128, octet (levels w) (extractStridedSlice S8x128 ![24, 0] (extui 32 (cs : IVec S32x128 8) natLt_8_32) slices_S32x128_o24_0_S8x128)⟩]
    concatenates_S16x128_S16x128_S16x128_S16x128_S64x128_d0

theorem codes_inb (g j : ℕ) : ∀ a, (![g % 45 * 32, j % 4 * 128] : Fin 2 → ℕ) a + S32x128.size a ≤ S1440x512.size a := fun a =>
  match a with
  | 0 => by
      have := Nat.mod_lt g (show 45 > 0 by decide)
      show g % 45 * 32 + 32 ≤ 1440
      omega
  | 1 => by
      have := Nat.mod_lt j (show 4 > 0 by decide)
      show j % 4 * 128 + 128 ≤ 512
      omega
theorem levels_inb (g j : ℕ) : ∀ a, (![g % 45, 0, j % 4 * 128] : Fin 3 → ℕ) a + S1x16x128.size a ≤ S45x16x512.size a := fun a =>
  match a with
  | 0 => Nat.succ_le_of_lt (Nat.mod_lt g (by decide))
  | 1 => le_rfl
  | 2 => by
      have := Nat.mod_lt j (show 4 > 0 by decide)
      show j % 4 * 128 + 128 ≤ 512
      omega
theorem xtile_inb (k b : ℕ) : ∀ a, (![k % 23, b % 12 * 128, 0] : Fin 3 → ℕ) a + S1x128x128.size a ≤ S23x1536x128.size a := fun a =>
  match a with
  | 0 => Nat.succ_le_of_lt (Nat.mod_lt k (by decide))
  | 1 => by
      have := Nat.mod_lt b (show 12 > 0 by decide)
      show b % 12 * 128 + 128 ≤ 1536
      omega
  | 2 => le_rfl
theorem out_inb (b t : ℕ) : ∀ a, (![b % 12 * 128, t % 2 * 256] : Fin 2 → ℕ) a + S128x256.size a ≤ S1536x512.size a := fun a =>
  match a with
  | 0 => by
      have := Nat.mod_lt b (show 12 > 0 by decide)
      show b % 12 * 128 + 128 ≤ 1536
      omega
  | 1 => by
      have := Nat.mod_lt t (show 2 > 0 by decide)
      show t % 2 * 256 + 256 ≤ 512
      omega
theorem adr_fits (c : ℕ) : Mxu.Fits (c % 6 * 32) 128 := by
  have := Nat.mod_lt c (show 6 > 0 by decide)
  refine ⟨by omega, by decide, by omega⟩

section Body

variable (M2 : Memref sig .tc .vmem S1440x512 .i8) (M3 : Memref sig .tc .vmem S45x16x512 .i16)
  (M7 : Memref sig .tc .vmem S23x1536x128 .bf16)
  (c : Dev nD) (f2 : Bf (F := F) c M2) (f3 : Bf (F := F) c M3) (X : Bf (F := F) c M7)

/-- Group `g`'s weights at the columns `128 j` to `128 j + 127` of the block. -/
def groupAt (g j : ℕ) : FVec F S64x128 .bf16 :=
  group (View.readAt (Elt F) M3.view (Rect.unit (s := S45x16x512) ![g % 45, 0, j % 4 * 128] S1x16x128.size (levels_inb g j)).toLoadRect f3)
    (View.readAt (Elt F) M2.view (Rect.unit (s := S1440x512) ![g % 45 * 32, j % 4 * 128] S32x128.size (codes_inb g j)).toLoadRect f2)

/-- The 256 rows of weights of tile `k` at 128 columns; the last tile has one group and zeros. -/
def halfAt (k j : ℕ) : FVec F S256x128 .bf16 :=
  if k = 11 then
    concatenate S256x128 0 [⟨S64x128, groupAt M2 M3 c f2 f3 (k * 4) j⟩, ⟨S192x128, broadcast S192x128 (FloatOps.ofBits (F := F) .bf16 0#16)⟩]
      concatenates_S64x128_S192x128_S256x128_d0
  else
    concatenate S256x128 0 [⟨S64x128, groupAt M2 M3 c f2 f3 (k * 4) j⟩, ⟨S64x128, groupAt M2 M3 c f2 f3 (k * 4 + 1) j⟩,
        ⟨S64x128, groupAt M2 M3 c f2 f3 (k * 4 + 2) j⟩, ⟨S64x128, groupAt M2 M3 c f2 f3 (k * 4 + 3) j⟩]
      concatenates_S64x128_S64x128_S64x128_S64x128_S256x128_d0

/-- The weight tile of step `n`: tile `n % 12` of the rows, at the 256 columns of half `n / 12` of the block. -/
def wAt (n : ℕ) : FVec F S256x256 .bf16 :=
  concatenate S256x256 1 [⟨S256x128, halfAt M2 M3 c f2 f3 (n % 12) (n / 12 * 2)⟩, ⟨S256x128, halfAt M2 M3 c f2 f3 (n % 12) (n / 12 * 2 + 1)⟩]
    concatenates_S256x128_S256x128_S256x256_d1

/-- Tile `k` of the scratch at rows `128 b` to `128 b + 127`. -/
def xTile (k b : ℕ) : FVec F S128x128 .bf16 :=
  shapeCast S128x128 (View.readAt (Elt F) M7.view (Rect.unit (s := S23x1536x128) ![k % 23, b % 12 * 128, 0] S1x128x128.size (xtile_inb k b)).toLoadRect X)
    shapeCasts_S1x128x128_S128x128

/-- The left operand of step `n` at those rows. -/
def xAt (n b : ℕ) : FVec F S128x256 .bf16 :=
  concatenate S128x256 1 [⟨S128x128, xTile M7 c X (n % 12 * 2) b⟩,
      ⟨S128x128, if n % 12 = 11 then broadcast S128x128 (FloatOps.ofBits (F := F) .bf16 0#16) else xTile M7 c X (n % 12 * 2 + 1) b⟩]
    concatenates_S128x128_S128x128_S128x256_d1

/-! ## The matrix units -/

/-- The staging register of step `n`. -/
def regOf (n : ℕ) : Fin 2 := ⟨n % 2, Nat.mod_lt n (by decide)⟩

def push (s : Mxu F) (n : ℕ) : Mxu F :=
  (s.pushed 0 (regOf n) false (wAt M2 M3 c f2 f3 n)).pushed 1 (regOf n) false (wAt M2 M3 c f2 f3 n)

/-- Both units' rows of chunk `k` popped. -/
def pops (s : Mxu F) (k : ℕ) : Mxu F := (s.pop 0 (k % 6 * 32) 128 (adr_fits k)).pop 1 (k % 6 * 32) 128 (adr_fits k)

def accs (s : Mxu F) (n k : ℕ) : Mxu F :=
  if k = 0 then
    (s.accLhs 0 (regOf n) (k % 6 * 32) (xAt M7 c X n k) (adr_fits k)).accLhs 1 (regOf n) (k % 6 * 32) (xAt M7 c X n (6 + k)) (adr_fits k)
  else
    (s.accBy 0 ⟨.bf16, false, wAt M2 M3 c f2 f3 n⟩ (k % 6 * 32) (xAt M7 c X n k) (adr_fits k)).accBy 1 ⟨.bf16, false, wAt M2 M3 c f2 f3 n⟩
      (k % 6 * 32) (xAt M7 c X n (6 + k)) (adr_fits k)

/-- The first `k` chunks of step `n`: at the first step of the second half of the columns each chunk is popped first. -/
def chunks (s : Mxu F) (n : ℕ) : ℕ → Mxu F
  | 0 => s
  | k + 1 => accs M2 M3 M7 c f2 f3 X (if n = 12 then pops (chunks s n k) k else chunks s n k) n k

/-- The units after `n` steps. -/
def state : ℕ → Mxu F
  | 0 => Mxu.init
  | n + 1 => chunks M2 M3 M7 c f2 f3 X (push M2 M3 c f2 f3 (state n) n) n 6

/-- The units after the last step, the first `k` chunks popped. -/
def drained : ℕ → Mxu F
  | 0 => state M2 M3 M7 c f2 f3 X 24
  | k + 1 => pops (drained k) k

/-- The units when chunk `k` of column half `t` is about to be popped. -/
def before (t k : ℕ) : Mxu F :=
  if t = 0 then chunks M2 M3 M7 c f2 f3 X (push M2 M3 c f2 f3 (state M2 M3 M7 c f2 f3 X 12) 12) 12 k else drained M2 M3 M7 c f2 f3 X k

/-- Block `m` stored into the result: column half `m / 12`, chunk `m / 2 % 6`, unit `m % 2`. -/
def outs : ℕ → List (View.Piece (Elt F) S1536x512 .f32)
  | 0 => []
  | m + 1 =>
    ⟨Rect.unit (s := S1536x512) ![(m % 2 * 6 + m / 2 % 6) % 12 * 128, m / 12 % 2 * 256] S128x256.size (out_inb _ _),
      if m % 2 = 0 then (before M2 M3 M7 c f2 f3 X (m / 12) (m / 2 % 6)).read 0 (m / 2 % 6 % 6 * 32) (adr_fits _)
      else ((before M2 M3 M7 c f2 f3 X (m / 12) (m / 2 % 6)).pop 0 (m / 2 % 6 % 6 * 32) 128 (adr_fits _)).read 1 (m / 2 % 6 % 6 * 32) (adr_fits _)⟩
    :: outs m

/-- The run's list of stored blocks is this one. -/
theorem outs_eq : lumpRun.sl.H4_24_1 M2 M3 M7 c f2 f3 X = outs M2 M3 M7 c f2 f3 X 24 := by
  sl_kernel_rfl

end Body

end Cert.Proof.K

end
-- ==== Proof.Decode.lean ====
/-
  The decoding of one group of codes, element by element: row `2 i` of the weights is the level that the low half of
  code row `i` names, row `2 i + 1` the one its high half names.
-/
module

public import proofs.«01_k».proof.Proof.Model
public import Idealize.ShloMosaic.Lib.BitcastPair
public import Idealize.ShloMosaic.Lib.Pointwise.ElementwiseCore
public import Idealize.ShloMosaic.Lib.ValueLayout
public import Idealize.ShloMosaic.Lib.WholeRead

@[expose] public section

noncomputable section

namespace Cert.Proof.K

open Cert.Kernel Cert.Kernel.Gen
open Idealize.ShloMosaic Idealize.ShloMosaic.TcCoe Idealize.ShloMosaic.Tactic
open Idealize.SL.Sem
open Idealize.ShloMosaic.ValueIdx

variable {F : FTy → Type} [FloatOps F]

/-! ## One code's halves, as words -/

/-- The wrap-around of a negative index, at one word. -/
def wrapW (v : BitVec 32) : BitVec 32 := Scalar.select (IntOp.cmpi .slt v 0#32) (IntOp.addi v 8#32) v

/-- The row of level pairs that the low and the high half of a code name. -/
def loRow (b : BitVec 8) : BitVec 32 := wrapW (IntOp.andi (IntOp.shrsi .vector (b.setWidth 32) 1#32) 7#32)
def hiRow (b : BitVec 8) : BitVec 32 := wrapW (IntOp.shrsi .vector (b.setWidth 32) 5#32)
/-- The shift that brings the named level of the pair down. -/
def loShift (b : BitVec 8) : BitVec 32 := IntOp.andi (IntOp.shli .vector (b.setWidth 32) 4#32) 16#32
def hiShift (b : BitVec 8) : BitVec 32 := IntOp.andi (b.setWidth 32) 16#32

theorem code_words : ∀ n : Fin 256,
    (loRow (BitVec.ofFin n)).toNat % 8 = n.val % 16 / 2 ∧ (hiRow (BitVec.ofFin n)).toNat % 8 = n.val / 16 / 2
    ∧ loShift (BitVec.ofFin n) = (if n.val % 16 % 2 = 0 then 0#32 else 16#32)
    ∧ hiShift (BitVec.ofFin n) = (if n.val / 16 % 2 = 0 then 0#32 else 16#32) := by
  decide +kernel

theorem pair_shift (x y : BitVec 16) (p : ℕ) :
    (IntOp.shrui .vector (x ++ y) (if p = 0 then 0#32 else 16#32)).setWidth 16 = if p = 0 then y else x := by
  split
  · show (((x ++ y : BitVec 32)) >>> (0#32)).setWidth 16 = y
    apply BitVec.eq_of_getLsbD_eq
    intro i hi
    simp [hi]
    exact BitVec.getLsbD_append.trans (by simp [hi])
  · show (((x ++ y : BitVec 32)) >>> (16#32)).setWidth 16 = x
    apply BitVec.eq_of_getLsbD_eq
    intro i hi
    simp [hi]
    exact BitVec.getLsbD_append.trans (by simp [hi])

/-- The number a half of a code is: the low half for `p = 0`, else the high one. -/
def half (b : BitVec 8) (p : ℕ) : ℕ := if p = 0 then b.toNat % 16 else b.toNat / 16

theorem half_lt (b : BitVec 8) (p : ℕ) : half b p < 16 := by
  have := b.isLt
  unfold half
  split <;> omega

theorem wrap8_apply (v : IVec S8x128 32) (i : S8x128.Idx) : wrap8 v i = wrapW (v i) := by
  unfold wrap8
  rw [shapeCast_shapeCast]
  rfl

/-- A row of level pairs. -/
theorem levels_apply (w : Vec F S1x16x128 .i16) (r : Fin 8) (j : Fin 128) :
    levels w (ix2 r j) = ((w : IVec S1x16x128 16) (ix3 (0 : Fin 1) (⟨2 * r.val + 1, by omega⟩ : Fin 16) j) ++
      (w : IVec S1x16x128 16) (ix3 (0 : Fin 1) (⟨2 * r.val, by omega⟩ : Fin 16) j) : BitVec 32) := by
  unfold levels
  rw [bitcast_16_32]
  have e : ∀ (k : ℕ) (hk : k < 16) h, Shape.Bitcasts.srcIdx bitcasts_S16x128_w16_S8x128_w32 (ix2 r j) k h = ix2 (⟨k, hk⟩ : Fin 16) j := by
    intro k hk h
    funext a
    match a with
    | 0 => rfl
    | 1 => rfl
  have er : S8x128.row (ix2 r j) = r.val := rfl
  rw [e _ (by rw [er]; omega), e _ (by rw [er]; omega), shapeCast_1ab_ab_apply, shapeCast_1ab_ab_apply]
  rfl

theorem gather_apply (w : Vec F S1x16x128 .i16) (idx : IVec S8x128 32) (r : Fin 8) (j : Fin 128) (m : ℕ) (hm : m < 16)
    (h : (idx (ix2 r j)).toNat % 8 = m / 2) :
    dynamicGather 0 (levels w) idx (ix2 r j)
      = ((w : IVec S1x16x128 16) (ix3 (0 : Fin 1) (⟨2 * (m / 2) + 1, by omega⟩ : Fin 16) j) ++
        (w : IVec S1x16x128 16) (ix3 (0 : Fin 1) (⟨2 * (m / 2), by omega⟩ : Fin 16) j) : BitVec 32) := by
  rw [dynamicGather_apply]
  have e : (fun b : Fin S8x128.rank => if b = 0 then (⟨(idx (ix2 r j)).toNat % S8x128.size b, Nat.mod_lt _ (Fin.pos (ix2 r j b))⟩ : Fin (S8x128.size b)) else ix2 r j b)
      = ix2 (⟨m / 2, by omega⟩ : Fin 8) j := by
    funext a
    match a with
    | 0 => exact Fin.ext h
    | 1 => rfl
  exact (congrArg (levels w) e).trans (levels_apply w _ j)

theorem pick (w : Vec F S1x16x128 .i16) (m : ℕ) (hm : m < 16) (j : Fin 128) :
    (if m % 2 = 0 then (w : IVec S1x16x128 16) (ix3 (0 : Fin 1) (⟨2 * (m / 2), by omega⟩ : Fin 16) j)
      else (w : IVec S1x16x128 16) (ix3 (0 : Fin 1) (⟨2 * (m / 2) + 1, by omega⟩ : Fin 16) j))
      = (w : IVec S1x16x128 16) (ix3 (0 : Fin 1) (⟨m, hm⟩ : Fin 16) j) := by
  split
  · congr 2; exact Fin.ext (by show 2 * (m / 2) = m; omega)
  · congr 2; exact Fin.ext (by show 2 * (m / 2) + 1 = m; omega)

theorem shifted (w : Vec F S1x16x128 .i16) (m : ℕ) (hm : m < 16) (j : Fin 128) (u v : BitVec 32)
    (hu : u = ((w : IVec S1x16x128 16) (ix3 (0 : Fin 1) (⟨2 * (m / 2) + 1, by omega⟩ : Fin 16) j) ++
        (w : IVec S1x16x128 16) (ix3 (0 : Fin 1) (⟨2 * (m / 2), by omega⟩ : Fin 16) j) : BitVec 32))
    (hv : v = if m % 2 = 0 then 0#32 else 16#32) :
    (IntOp.shrui .vector u v).setWidth 16 = (w : IVec S1x16x128 16) (ix3 (0 : Fin 1) (⟨m, hm⟩ : Fin 16) j) := by
  rw [hu, hv]
  exact (pair_shift _ _ _).trans (pick w m hm j)

theorem halves (x y : BitVec 16) (p : ℕ) (hp : p < 2) : (x ++ y).extractLsb' (16 * p) 16 = if p = 0 then y else x := by
  have : p = 0 ∨ p = 1 := by omega
  rcases this with rfl | rfl
  · apply BitVec.eq_of_getLsbD_eq
    intro n hn
    simp [hn]
    exact BitVec.getLsbD_append.trans (by simp [hn])
  · apply BitVec.eq_of_getLsbD_eq
    intro n hn
    simp [hn]
    exact BitVec.getLsbD_append.trans (by simp [hn])

/-- One decoded element. -/
theorem octet_apply (w : Vec F S1x16x128 .i16) (cq : IVec S8x128 32) (i : Fin 16) (j : Fin 128) (b : BitVec 8)
    (hb : cq (ix2 (⟨i.val / 2, by omega⟩ : Fin 8) j) = b.setWidth 32) :
    octet (F := F) (levels w) cq (ix2 i j)
      = FloatOps.ofBits .bf16 ((w : IVec S1x16x128 16) (ix3 (0 : Fin 1) (⟨half b (i.val % 2), half_lt _ _⟩ : Fin 16) j)) := by
  unfold octet
  rw [bitcastToFloat_apply]
  refine congrArg (FloatOps.ofBits (F := F) .bf16) ?_
  rw [bitcast_32_16]
  have e : ∀ h, Shape.Bitcasts.srcIdx bitcasts_S8x128_w32_S16x128_w16 (ix2 i j) (S16x128.row (ix2 i j) / 2) h = ix2 (⟨i.val / 2, by omega⟩ : Fin 8) j := by
    intro h
    funext a
    match a with
    | 0 => rfl
    | 1 => rfl
  rw [e, packElementwiseI16_apply]
  have er : S16x128.row (ix2 i j) = i.val := rfl
  rw [er]
  obtain ⟨hl, hh, sl, sh⟩ := code_words b.toFin
  have hlt := b.isLt
  have elo : (IntOp.andi (IntOp.shrsi .vector (cq (ix2 (⟨i.val / 2, by omega⟩ : Fin 8) j)) 1#32) 7#32)
      = IntOp.andi (IntOp.shrsi .vector (b.setWidth 32) 1#32) 7#32 := by rw [hb]
  have ehi : IntOp.shrsi .vector (cq (ix2 (⟨i.val / 2, by omega⟩ : Fin 8) j)) 5#32 = IntOp.shrsi .vector (b.setWidth 32) 5#32 := by rw [hb]
  have hlo := shifted w (b.toNat % 16) (by omega) j _ _
    (gather_apply w (wrap8 (andi (shrsi cq (broadcast S8x128 1#32)) (broadcast S8x128 7#32))) (⟨i.val / 2, by omega⟩ : Fin 8) j
      (b.toNat % 16) (by omega) ((congrArg (fun v : BitVec 32 => v.toNat % 8) ((wrap8_apply _ _).trans (congrArg wrapW elo))).trans hl))
    ((congrArg (fun v => IntOp.andi (IntOp.shli .vector v 4#32) 16#32) hb).trans sl)
  have hhi := shifted w (b.toNat / 16) (by omega) j _ _
    (gather_apply w (wrap8 (shrsi cq (broadcast S8x128 5#32))) (⟨i.val / 2, by omega⟩ : Fin 8) j
      (b.toNat / 16) (by omega) ((congrArg (fun v : BitVec 32 => v.toNat % 8) ((wrap8_apply _ _).trans (congrArg wrapW ehi))).trans hh))
    ((congrArg (fun v => IntOp.andi v 16#32) hb).trans sh)
  refine (congrArg₂ (fun x y : BitVec 16 => (x ++ y).extractLsb' (16 * (i.val % 2)) 16) hhi hlo).trans ?_
  rw [halves _ _ _ (Nat.mod_lt _ (by decide))]
  unfold half
  split
  · rfl
  · rfl

/-- One decoded element of a group. -/
theorem group_apply (w : Vec F S1x16x128 .i16) (cs : Vec F S32x128 .i8) (i : Fin 64) (j : Fin 128) :
    group (F := F) w cs (ix2 i j)
      = FloatOps.ofBits .bf16 ((w : IVec S1x16x128 16) (ix3 (0 : Fin 1)
          (⟨half ((cs : IVec S32x128 8) (ix2 (⟨i.val / 2, by omega⟩ : Fin 32) j)) (i.val % 2), half_lt _ _⟩ : Fin 16) j)) := by
  have hoct : ∀ (o : ℕ) (ho : o < 4) (h : S32x128.Slices ![o * 8, 0] S8x128) (hi : i.val / 16 = o),
      octet (F := F) (levels w) (extractStridedSlice S8x128 ![o * 8, 0] (extui 32 (cs : IVec S32x128 8) natLt_8_32) h)
        (ix2 (⟨i.val % 16, Nat.mod_lt _ (by decide)⟩ : Fin 16) j)
      = FloatOps.ofBits .bf16 ((w : IVec S1x16x128 16) (ix3 (0 : Fin 1)
          (⟨half ((cs : IVec S32x128 8) (ix2 (⟨i.val / 2, by omega⟩ : Fin 32) j)) (i.val % 2), half_lt _ _⟩ : Fin 16) j)) := by
    intro o ho h hi
    have hp : i.val % 16 % 2 = i.val % 2 := by omega
    rw [octet_apply w _ _ j ((cs : IVec S32x128 8) (ix2 (⟨i.val / 2, by omega⟩ : Fin 32) j))]
    · simp only [hp]
    · rw [extractStridedSlice_apply (k := ix2 (⟨i.val / 2, by omega⟩ : Fin 32) j)]
      · rfl
      · intro a
        match a with
        | 0 => show i.val / 2 = o * 8 + i.val % 16 / 2; omega
        | 1 => show j.val = 0 + j.val; omega
  unfold group
  have hi := i.isLt
  have hq : i.val / 16 = 0 ∨ i.val / 16 = 1 ∨ i.val / 16 = 2 ∨ i.val / 16 = 3 := by omega
  have hb : ∀ b : Fin S16x128.rank, b.cast (rfl : S16x128.rank = S64x128.rank) ≠ 0 →
      ((ix2 (⟨i.val % 16, Nat.mod_lt _ (by decide)⟩ : Fin 16) j : S16x128.Idx) b).val = ((ix2 i j : S64x128.Idx) (b.cast rfl)).val := by
    intro b hb
    match b with
    | 0 => exact absurd rfl hb
    | 1 => rfl
  rcases hq with h | h | h | h
  · rw [concatenate_apply_piece (t := S64x128) 0 _ _ (ix2 i j) 0 (by show _ < 4; decide) S16x128 _ rfl rfl 0 rfl (ix2 (⟨i.val % 16, Nat.mod_lt _ (by decide)⟩ : Fin 16) j) hb
      (by show 0 + i.val % 16 = i.val; omega)]
    exact hoct 0 (by decide) _ h
  · rw [concatenate_apply_piece (t := S64x128) 0 _ _ (ix2 i j) 1 (by show _ < 4; decide) S16x128 _ rfl rfl 16 rfl (ix2 (⟨i.val % 16, Nat.mod_lt _ (by decide)⟩ : Fin 16) j) hb
      (by show 16 + i.val % 16 = i.val; omega)]
    exact hoct 1 (by decide) _ h
  · rw [concatenate_apply_piece (t := S64x128) 0 _ _ (ix2 i j) 2 (by show _ < 4; decide) S16x128 _ rfl rfl 32 rfl (ix2 (⟨i.val % 16, Nat.mod_lt _ (by decide)⟩ : Fin 16) j) hb
      (by show 32 + i.val % 16 = i.val; omega)]
    exact hoct 2 (by decide) _ h
  · rw [concatenate_apply_piece (t := S64x128) 0 _ _ (ix2 i j) 3 (by show _ < 4; decide) S16x128 _ rfl rfl 48 rfl (ix2 (⟨i.val % 16, Nat.mod_lt _ (by decide)⟩ : Fin 16) j) hb
      (by show 48 + i.val % 16 = i.val; omega)]
    exact hoct 3 (by decide) _ h

end Cert.Proof.K

end
-- ==== Proof.Operands.lean ====
/-
  The operands of one step, element by element: the weight tile in the levels and the codes of the two input blocks, and
  the left operand in the array `x`.
-/
module

public import proofs.«01_k».proof.Proof.Decode
public import proofs.«01_k».proof.Proof.Tiles

@[expose] public section

noncomputable section

namespace Cert.Proof.K

open Cert.Kernel Cert.Kernel.Gen
open Idealize.ShloMosaic Idealize.ShloMosaic.TcCoe Idealize.ShloMosaic.Tactic Idealize.ShloMosaic.ValueIdx
open Idealize.SL Idealize.SL.RA Idealize.SL.BI
open Idealize.SL.Sem

variable {F : FTy → Type} [FloatOps F]

/-- The weight at row `κ` and column `j`, from codes and levels of any number of columns. -/
def weight {C : ℕ} (d2 : (⟨2, ![1440, C]⟩ : Shape).Idx → BitVec 8) (d3 : (⟨3, ![45, 16, C]⟩ : Shape).Idx → BitVec 16) (κ : Fin 2880) (j : Fin C) : F .bf16 :=
  FloatOps.ofBits .bf16 (d3 (ix3 (⟨κ.val / 64, by omega⟩ : Fin 45)
    (⟨half (d2 (ix2 (⟨κ.val / 2, by omega⟩ : Fin 1440) j)) (κ.val % 2), half_lt _ _⟩ : Fin 16) j))

section Body

variable (M2 : Memref sig .tc .vmem S1440x512 .i8) (h2 : M2.IsWhole) (M3 : Memref sig .tc .vmem S45x16x512 .i16) (h3 : M3.IsWhole)
  (c : Dev nD) (d2 : S1440x512.Idx → Elt F .i8) (d3 : S45x16x512.Idx → Elt F .i16)

theorem groupAt_apply (g j : ℕ) (hg : g < 45) (hj : j < 4) (i : Fin 64) (s : Fin 128) :
    groupAt M2 M3 c (h2.unread d2) (h3.unread d3) g j (ix2 i s)
      = weight (F := F) (C := 512) d2 d3 (⟨g * 64 + i.val, by omega⟩ : Fin 2880) (⟨j * 128 + s.val, by omega⟩ : Fin 512) := by
  unfold groupAt weight
  rw [group_apply, h2.readAt_unread d2]
  have e2 : (Rect.unit (s := S1440x512) ![g % 45 * 32, j % 4 * 128] S32x128.size (codes_inb g j)).toLoadRect.idx
      (ix2 (⟨i.val / 2, by omega⟩ : Fin 32) s) = ix2 (⟨(g * 64 + i.val) / 2, by omega⟩ : Fin 1440) (⟨j * 128 + s.val, by omega⟩ : Fin 512) := by
    funext a
    apply Fin.ext
    match a with
    | 0 => show g % 45 * 32 + 1 * (i.val / 2) = (g * 64 + i.val) / 2; omega
    | 1 => show j % 4 * 128 + 1 * s.val = j * 128 + s.val; omega
  rw [e2]
  have hp : i.val % 2 = (g * 64 + i.val) % 2 := by omega
  refine congrArg (FloatOps.ofBits FTy.bf16) ?_
  refine (h3.readAt_unread d3 _ _).trans (congrArg d3 ?_)
  funext a
  apply Fin.ext
  match a with
  | 0 => show g % 45 + 1 * 0 = (g * 64 + i.val) / 64; omega
  | 1 =>
    exact (by omega : ∀ x y : ℕ, x = y → 0 + 1 * x = y) _ _ (congrArg (half _) hp)
  | 2 => show j % 4 * 128 + 1 * s.val = j * 128 + s.val; omega

theorem halfAt_apply (k j : ℕ) (hk : k < 12) (hj : j < 4) (i : Fin 256) (s : Fin 128) :
    halfAt M2 M3 c (h2.unread d2) (h3.unread d3) k j (ix2 i s)
      = if h : k * 256 + i.val < 2880 then weight (F := F) (C := 512) d2 d3 (⟨k * 256 + i.val, h⟩ : Fin 2880) (⟨j * 128 + s.val, by omega⟩ : Fin 512)
        else FloatOps.ofBits .bf16 0#16 := by
  have hi := i.isLt
  unfold halfAt
  split
  next h =>
    by_cases h64 : i.val < 64
    · rw [concatenate_pair_apply_left (i := ix2 (⟨i.val, h64⟩ : Fin 64) s) (t := S256x128) (s₁ := S64x128) (s₂ := S192x128) (a := 0) (hr := rfl) (hi := fun b => match b with | 0 => rfl | 1 => rfl)]
      rw [groupAt_apply M2 h2 M3 h3 c d2 d3 (k * 4) j (by omega) hj, dif_pos (by omega)]
      congr 1
      apply Fin.ext
      show k * 4 * 64 + i.val = k * 256 + i.val
      omega
    · rw [concatenate_pair_apply_right (i := ix2 (⟨i.val - 64, by omega⟩ : Fin 192) s) (t := S256x128) (s₁ := S64x128) (s₂ := S192x128) (a := 0) (hr := rfl) (hr₂ := rfl)
        (hi := fun b hb => match b with | 0 => absurd rfl hb | 1 => rfl) (ha := by show i.val - 64 + 64 = i.val; omega)]
      rw [dif_neg (by omega)]
      rfl
  next h =>
    have hb : ∀ b : Fin S64x128.rank, b.cast (rfl : S64x128.rank = S256x128.rank) ≠ 0 →
        ((ix2 (⟨i.val % 64, Nat.mod_lt _ (by decide)⟩ : Fin 64) s : S64x128.Idx) b).val = ((ix2 i s : S256x128.Idx) (b.cast rfl)).val := by
      intro b hb
      match b with
      | 0 => exact absurd rfl hb
      | 1 => rfl
    have hg : ∀ o, i.val / 64 = o → o < 4 →
        groupAt M2 M3 c (h2.unread d2) (h3.unread d3) (k * 4 + o) j (ix2 (⟨i.val % 64, Nat.mod_lt _ (by decide)⟩ : Fin 64) s)
        = if h : k * 256 + i.val < 2880 then weight (F := F) (C := 512) d2 d3 (⟨k * 256 + i.val, h⟩ : Fin 2880) (⟨j * 128 + s.val, by omega⟩ : Fin 512)
          else FloatOps.ofBits .bf16 0#16 := by
      intro o ho ho4
      rw [groupAt_apply M2 h2 M3 h3 c d2 d3 (k * 4 + o) j (by omega) hj, dif_pos (by omega)]
      congr 1
      apply Fin.ext
      show (k * 4 + o) * 64 + i.val % 64 = k * 256 + i.val
      omega
    have hq : i.val / 64 = 0 ∨ i.val / 64 = 1 ∨ i.val / 64 = 2 ∨ i.val / 64 = 3 := by omega
    rcases hq with h | h | h | h
    · rw [concatenate_apply_piece (t := S256x128) 0 _ _ (ix2 i s) 0 (by show _ < 4; decide) S64x128 _ rfl rfl 0 rfl (ix2 (⟨i.val % 64, Nat.mod_lt _ (by decide)⟩ : Fin 64) s) hb
        (by show 0 + i.val % 64 = i.val; omega)]
      exact hg 0 h (by decide)
    · rw [concatenate_apply_piece (t := S256x128) 0 _ _ (ix2 i s) 1 (by show _ < 4; decide) S64x128 _ rfl rfl 64 rfl (ix2 (⟨i.val % 64, Nat.mod_lt _ (by decide)⟩ : Fin 64) s) hb
        (by show 64 + i.val % 64 = i.val; omega)]
      exact hg 1 h (by decide)
    · rw [concatenate_apply_piece (t := S256x128) 0 _ _ (ix2 i s) 2 (by show _ < 4; decide) S64x128 _ rfl rfl 128 rfl (ix2 (⟨i.val % 64, Nat.mod_lt _ (by decide)⟩ : Fin 64) s) hb
        (by show 128 + i.val % 64 = i.val; omega)]
      exact hg 2 h (by decide)
    · rw [concatenate_apply_piece (t := S256x128) 0 _ _ (ix2 i s) 3 (by show _ < 4; decide) S64x128 _ rfl rfl 192 rfl (ix2 (⟨i.val % 64, Nat.mod_lt _ (by decide)⟩ : Fin 64) s) hb
        (by show 192 + i.val % 64 = i.val; omega)]
      exact hg 3 h (by decide)

/-- An element of the weight tile of step `n`. -/
theorem wAt_apply (n : ℕ) (hn : n < 24) (i s : Fin 256) :
    wAt M2 M3 c (h2.unread d2) (h3.unread d3) n (ix2 i s)
      = if h : n % 12 * 256 + i.val < 2880 then
          weight (F := F) (C := 512) d2 d3 (⟨n % 12 * 256 + i.val, h⟩ : Fin 2880) (⟨n / 12 * 256 + s.val, by omega⟩ : Fin 512)
        else FloatOps.ofBits .bf16 0#16 := by
  have hs := s.isLt
  unfold wAt
  by_cases h : s.val < 128
  · rw [concatenate_pair_apply_left (i := ix2 i (⟨s.val, h⟩ : Fin 128)) (t := S256x256) (s₁ := S256x128) (s₂ := S256x128) (a := 1) (hr := rfl) (hi := fun b => match b with | 0 => rfl | 1 => rfl)]
    rw [halfAt_apply M2 h2 M3 h3 c d2 d3 (n % 12) (n / 12 * 2) (by omega) (by omega)]
    have e : n / 12 * 2 * 128 + s.val = n / 12 * 256 + s.val := by omega
    simp only [e]
  · rw [concatenate_pair_apply_right (i := ix2 i (⟨s.val - 128, by omega⟩ : Fin 128)) (t := S256x256) (s₁ := S256x128) (s₂ := S256x128) (a := 1) (hr := rfl) (hr₂ := rfl)
      (hi := fun b hb => match b with | 0 => rfl | 1 => absurd rfl hb) (ha := by show s.val - 128 + 128 = s.val; omega)]
    rw [halfAt_apply M2 h2 M3 h3 c d2 d3 (n % 12) (n / 12 * 2 + 1) (by omega) (by omega)]
    have e : (n / 12 * 2 + 1) * 128 + (s.val - 128) = n / 12 * 256 + s.val := by omega
    simp only [e]

end Body

theorem xTile_apply (c : Dev nD) (fx : Bf (F := F) c mX) (k b : ℕ) (hk : k < 23) (hb : b < 12) (r s : Fin 128) :
    xTile mT c (tiles c fx) k b (ix2 r s)
      = if h : k * 128 + s.val < 2880 then fx (ix3 (⟨b, hb⟩ : Fin 12) (⟨k * 128 + s.val, h⟩ : Fin 2880) r) else FloatOps.ofBits .bf16 0#16 := by
  have hr := r.isLt
  have hs := s.isLt
  unfold xTile
  rw [shapeCast_1ab_ab_apply]
  show tiles c fx ((Rect.unit (s := S23x1536x128) ![k % 23, b % 12 * 128, 0] S1x128x128.size (xtile_inb k b)).toLoadRect.idx (ix3 (0 : Fin 1) r s)) = _
  have e0 : (((Rect.unit (s := S23x1536x128) ![k % 23, b % 12 * 128, 0] S1x128x128.size (xtile_inb k b)).toLoadRect.idx (ix3 (0 : Fin 1) r s)) 0).val = k := by
    show k % 23 + 1 * 0 = _; omega
  have e1 : (((Rect.unit (s := S23x1536x128) ![k % 23, b % 12 * 128, 0] S1x128x128.size (xtile_inb k b)).toLoadRect.idx (ix3 (0 : Fin 1) r s)) 1).val = b * 128 + r.val := by
    show b % 12 * 128 + 1 * r.val = _; omega
  have e2 : (((Rect.unit (s := S23x1536x128) ![k % 23, b % 12 * 128, 0] S1x128x128.size (xtile_inb k b)).toLoadRect.idx (ix3 (0 : Fin 1) r s)) 2).val = s.val := by
    show 0 + 1 * s.val = _; omega
  unfold tiles
  by_cases h : k * 128 + s.val < 2880
  · rw [dif_pos h, dif_pos (by rw [e0, e2]; exact h)]
    congr 1
    funext a
    apply Fin.ext
    match a with
    | 0 => show _ / 128 = b; rw [e1]; omega
    | 1 => show _ * 128 + _ = _; rw [e0, e2]
    | 2 => show _ % 128 = r.val; rw [e1]; omega
  · rw [dif_neg h, dif_neg (by rw [e0, e2]; exact h)]

/-- An element of the left operand of step `n`. -/
theorem xAt_apply (c : Dev nD) (fx : Bf (F := F) c mX) (n b : ℕ) (hb : b < 12) (r : Fin 128) (i : Fin 256) :
    xAt mT c (tiles c fx) n b (ix2 r i)
      = if h : n % 12 * 256 + i.val < 2880 then fx (ix3 (⟨b, hb⟩ : Fin 12) (⟨n % 12 * 256 + i.val, h⟩ : Fin 2880) r) else FloatOps.ofBits .bf16 0#16 := by
  have hi := i.isLt
  unfold xAt
  by_cases h : i.val < 128
  · rw [concatenate_pair_apply_left (i := ix2 r (⟨i.val, h⟩ : Fin 128)) (t := S128x256) (s₁ := S128x128) (s₂ := S128x128) (a := 1) (hr := rfl) (hi := fun b => match b with | 0 => rfl | 1 => rfl)]
    rw [xTile_apply c fx _ b (by omega) hb]
    have e : n % 12 * 2 * 128 + i.val = n % 12 * 256 + i.val := by omega
    simp only [e]
  · rw [concatenate_pair_apply_right (i := ix2 r (⟨i.val - 128, by omega⟩ : Fin 128)) (t := S128x256) (s₁ := S128x128) (s₂ := S128x128) (a := 1) (hr := rfl) (hr₂ := rfl)
      (hi := fun b hb => match b with | 0 => rfl | 1 => absurd rfl hb) (ha := by show i.val - 128 + 128 = i.val; omega)]
    by_cases h11 : n % 12 = 11
    · rw [if_pos h11, dif_neg (by omega)]
      rfl
    · rw [if_neg h11, xTile_apply c fx _ b (by omega) hb]
      have e : (n % 12 * 2 + 1) * 128 + (i.val - 128) = n % 12 * 256 + i.val := by omega
      simp only [e]

end Cert.Proof.K

end
-- ==== Proof.Units.lean ====
/-
  What the two matrix units hold at each step: each of their twelve blocks of rows the passes deposited so far, in
  order, started anew at the first step of the second half of the columns; so what each stored block is.
-/
module

public import proofs.«01_k».proof.Proof.Model

@[expose] public section

noncomputable section

namespace Cert.Proof.K

open Cert.Kernel Cert.Kernel.Gen
open Idealize.ShloMosaic Idealize.ShloMosaic.TcCoe Idealize.ShloMosaic.Tactic
open Idealize.SL.Sem

variable {F : FTy → Type} [FloatOps F]

/-- Block `k` of unit `q`'s rows: not live, or live with a value. -/
def Holds (s : Mxu F) (q : Fin 2) (k : ℕ) : Option (FVec F S128x256 .f32) → Prop
  | none => ∀ r : Fin 128, s.live q (Mxu.row (adr_fits k) r) = false
  | some v => (∀ r : Fin 128, s.live q (Mxu.row (adr_fits k) r) = true) ∧ s.read q (k % 6 * 32) (adr_fits k) = v

/-- A pass deposited on what a block holds. -/
def onto (o : Option (FVec F S128x256 .f32)) (p : FVec F S128x256 .f32) : FVec F S128x256 .f32 :=
  match o with
  | none => p
  | some v => addf v p

/-- Two blocks apart. -/
def Apart (q : Fin 2) (k : ℕ) (q' : Fin 2) (k' : ℕ) : Prop := q' ≠ q ∨ k' % 6 ≠ k % 6

variable {s : Mxu F} {q q' : Fin 2} {k k' : ℕ} {o : Option (FVec F S128x256 .f32)}

theorem Apart.rows (h : Apart q k q' k') :
    q' ≠ q ∨ 4 * (k' % 6 * 32) + 128 ≤ 4 * (k % 6 * 32) ∨ 4 * (k % 6 * 32) + 128 ≤ 4 * (k' % 6 * 32) := by
  rcases h with h | h
  · exact Or.inl h
  · right; omega

theorem Apart.row (h : Apart q k q' k') (r : Fin 128) :
    ¬ (q' = q ∧ 4 * (k % 6 * 32) ≤ (Mxu.row (adr_fits k') r).val ∧ (Mxu.row (adr_fits k') r).val < 4 * (k % 6 * 32) + 128) := by
  have hr := r.isLt
  rintro ⟨e, h1, h2⟩
  dsimp only [Mxu.row] at h1 h2
  rcases h.rows with h | h | h
  · exact h e
  · omega
  · omega

theorem holds_congr {s' : Mxu F} (hl : ∀ r : Fin 128, s'.live q (Mxu.row (adr_fits k) r) = s.live q (Mxu.row (adr_fits k) r))
    (hr : s'.read q (k % 6 * 32) (adr_fits k) = s.read q (k % 6 * 32) (adr_fits k)) (h : Holds s q k o) : Holds s' q k o := by
  cases o with
  | none => exact fun r => (hl r).trans (h r)
  | some v => exact ⟨fun r => (hl r).trans (h.1 r), hr.trans h.2⟩

theorem holds_pushed (p r : Fin 2) (v : FVec F S256x256 .bf16) (h : Holds s q k o) : Holds (s.pushed p r false v) q k o :=
  holds_congr (fun _ => by rw [Mxu.live_pushed]) (Mxu.read_pushed ..) h

theorem holds_pop_ne (h : Holds s q' k' o) (ha : Apart q k q' k') : Holds (s.pop q (k % 6 * 32) 128 (adr_fits k)) q' k' o :=
  holds_congr (fun r => by rw [Mxu.live_pop, if_neg (ha.row r)]) (Mxu.read_pop_ne _ _ _ _ _ _ _ ha.rows) h

theorem holds_pop : Holds (s.pop q (k % 6 * 32) 128 (adr_fits k)) q k none := fun r => Mxu.live_pop_row _ _ _ _ r

theorem holds_accBy_ne (t : Mxu.Staged F) (x : FVec F S128x256 .bf16) (h : Holds s q' k' o) (ha : Apart q k q' k') :
    Holds (s.accBy q t (k % 6 * 32) x (adr_fits k)) q' k' o :=
  holds_congr (fun r => by rw [Mxu.live_accBy, if_neg (ha.row r)]) (Mxu.read_accBy_ne _ _ _ _ _ _ _ _ _ ha.rows) h

theorem holds_accBy (t : Mxu.Staged F) (x : FVec F S128x256 .bf16) (h : Holds s q k o) :
    Holds (s.accBy q t (k % 6 * 32) x (adr_fits k)) q k (some (onto o (t.pass x))) := by
  refine ⟨fun r => Mxu.live_accBy_row _ _ _ _ _ _ r, ?_⟩
  cases o with
  | none => exact Mxu.read_accBy_of_not_live _ _ _ _ _ _ h
  | some v => exact (Mxu.read_accBy_of_live _ _ _ _ _ _ h.1).trans (by rw [h.2]; rfl)

theorem holds_accLhs_ne (r : Fin 2) (x : FVec F S128x256 .bf16) (h : Holds s q' k' o) (ha : Apart q k q' k') :
    Holds (s.accLhs q r (k % 6 * 32) x (adr_fits k)) q' k' o :=
  holds_congr (s := s.accBy q (s.staged q r) (k % 6 * 32) x (adr_fits k)) (fun _ => rfl) rfl (holds_accBy_ne _ x h ha)

theorem holds_accLhs (r : Fin 2) (x : FVec F S128x256 .bf16) (t : Mxu.Staged F) (ht : s.reg q r = some t) (h : Holds s q k o) :
    Holds (s.accLhs q r (k % 6 * 32) x (adr_fits k)) q k (some (onto o (t.pass x))) := by
  have e : s.staged q r = t := by rw [Mxu.staged_eq, ht]; rfl
  refine holds_congr (s := s.accBy q t (k % 6 * 32) x (adr_fits k)) (fun _ => rfl) ?_ (holds_accBy t x h)
  rw [Mxu.read_accLhs_eq_accBy, e]

section Body

variable (M2 : Memref sig .tc .vmem S1440x512 .i8) (M3 : Memref sig .tc .vmem S45x16x512 .i16)
  (M7 : Memref sig .tc .vmem S23x1536x128 .bf16)
  (c : Dev nD) (f2 : Bf (F := F) c M2) (f3 : Bf (F := F) c M3) (X : Bf (F := F) c M7)

/-- The pass of step `n` for block `k` of unit `q`. -/
def passAt (n : ℕ) (q : Fin 2) (k : ℕ) : FVec F S128x256 .f32 :=
  FloatOps.mxuPass (DotDims.plain 128 256 256) (xAt M7 c X n (q.val * 6 + k)) (wAt M2 M3 c f2 f3 n)

/-- What block `k` of unit `q` holds after `n` steps. -/
def part (q : Fin 2) (k : ℕ) : ℕ → Option (FVec F S128x256 .f32)
  | 0 => none
  | n + 1 => some (onto (if n = 12 then none else part q k n) (passAt M2 M3 M7 c f2 f3 X n q k))

theorem apart01 (k k' : ℕ) : Apart 0 k 1 k' := Or.inl (by decide)
theorem apart10 (k k' : ℕ) : Apart 1 k 0 k' := Or.inl (by decide)
theorem apart_ne {k k' : ℕ} (q q' : Fin 2) (hk : k < 6) (hk' : k' < 6) (h : k' ≠ k) : Apart q k q' k' :=
  Or.inr (by rw [Nat.mod_eq_of_lt hk, Nat.mod_eq_of_lt hk']; exact h)

theorem fin2 (q : Fin 2) : q = 0 ∨ q = 1 := by omega

/-- The two accumulates of chunk `k`. -/
theorem holds_accs (n k : ℕ) (hreg : k = 0 → ∀ q, s.reg q (regOf n) = some ⟨.bf16, false, wAt M2 M3 c f2 f3 n⟩)
    (q : Fin 2) (h : Holds s q k o) :
    Holds (accs M2 M3 M7 c f2 f3 X s n k) q k (some (onto o (passAt M2 M3 M7 c f2 f3 X n q k))) := by
  unfold accs
  split
  next h0 =>
    rcases fin2 q with rfl | rfl
    · refine holds_accLhs_ne _ _ ?_ (apart10 k k)
      have := holds_accLhs (regOf n) (xAt M7 c X n k) _ (hreg h0 0) h
      unfold passAt; rw [Fin.val_zero, Nat.zero_mul, Nat.zero_add]; exact this
    · have h1 := holds_accLhs_ne (regOf n) (xAt M7 c X n k) h (apart01 k k)
      have := holds_accLhs (regOf n) (xAt M7 c X n (6 + k)) _
        ((Mxu.reg_accLhs_ne s 0 (regOf n) (k % 6 * 32) (xAt M7 c X n k) (adr_fits k) 1 (regOf n) (by simp)).trans (hreg h0 1)) h1
      unfold passAt; rw [Fin.val_one, Nat.one_mul]; exact this
  next h0 =>
    rcases fin2 q with rfl | rfl
    · refine holds_accBy_ne _ _ ?_ (apart10 k k)
      unfold passAt; rw [Fin.val_zero, Nat.zero_mul, Nat.zero_add]; exact holds_accBy _ _ h
    · have h1 := holds_accBy_ne ⟨.bf16, false, wAt M2 M3 c f2 f3 n⟩ (xAt M7 c X n k) h (apart01 k k)
      unfold passAt; rw [Fin.val_one, Nat.one_mul]; exact holds_accBy _ _ h1

theorem holds_accs_ne (n k : ℕ) (q' : Fin 2) (hk : k < 6) (hk' : k' < 6) (hne : k' ≠ k) (h : Holds s q' k' o) :
    Holds (accs M2 M3 M7 c f2 f3 X s n k) q' k' o := by
  unfold accs
  split
  · exact holds_accLhs_ne _ _ (holds_accLhs_ne _ _ h (apart_ne _ _ hk hk' hne)) (apart_ne _ _ hk hk' hne)
  · exact holds_accBy_ne _ _ (holds_accBy_ne _ _ h (apart_ne _ _ hk hk' hne)) (apart_ne _ _ hk hk' hne)

theorem holds_pops_ne (k : ℕ) (q' : Fin 2) (hk : k < 6) (hk' : k' < 6) (hne : k' ≠ k) (h : Holds s q' k' o) :
    Holds (pops s k) q' k' o :=
  holds_pop_ne (holds_pop_ne h (apart_ne _ _ hk hk' hne)) (apart_ne _ _ hk hk' hne)

theorem holds_pops (k : ℕ) (q : Fin 2) : Holds (pops s k) q k none := by
  rcases fin2 q with rfl | rfl
  · exact holds_pop_ne holds_pop (apart10 k k)
  · exact holds_pop

/-! ## Registers -/

theorem reg_pops (k : ℕ) : (pops s k).reg = s.reg := rfl

theorem reg_accs (n k : ℕ) (q r : Fin 2) : (accs M2 M3 M7 c f2 f3 X s n k).reg q r = if k = 0 ∧ r = regOf n then none else s.reg q r := by
  unfold accs
  by_cases h0 : k = 0
  · rw [if_pos h0]
    by_cases hr : r = regOf n
    · rw [if_pos ⟨h0, hr⟩, hr]
      rcases fin2 q with rfl | rfl
      · rw [Mxu.reg_accLhs_ne _ _ _ _ _ _ _ _ (by simp), Mxu.reg_accLhs]
      · rw [Mxu.reg_accLhs]
    · rw [if_neg (fun h => hr h.2), Mxu.reg_accLhs_ne _ _ _ _ _ _ _ _ (fun h => hr h.2), Mxu.reg_accLhs_ne _ _ _ _ _ _ _ _ (fun h => hr h.2)]
  · rw [if_neg h0, if_neg (fun h => h0 h.1)]; rfl

theorem reg_push (n : ℕ) (hs : ∀ q r, s.reg q r = none) (q r : Fin 2) :
    (push M2 M3 c f2 f3 s n).reg q r = if r = regOf n then some ⟨.bf16, false, wAt M2 M3 c f2 f3 n⟩ else none := by
  unfold push
  have h1 : (s.pushed 0 (regOf n) false (wAt M2 M3 c f2 f3 n)).reg 1 (regOf n) = none :=
    (Mxu.reg_pushed_ne s 0 (regOf n) false (wAt M2 M3 c f2 f3 n) 1 (regOf n) (by simp)).trans (hs _ _)
  split
  next hr =>
    rw [hr]
    rcases fin2 q with rfl | rfl
    · rw [Mxu.reg_pushed_ne _ _ _ _ _ _ _ (by simp), Mxu.reg_pushed_of_none _ _ _ _ _ (hs _ _)]
    · rw [Mxu.reg_pushed_of_none _ _ _ _ _ h1]
  next hr =>
    rw [Mxu.reg_pushed_ne _ _ _ _ _ _ _ (fun h => hr h.2), Mxu.reg_pushed_ne _ _ _ _ _ _ _ (fun h => hr h.2)]; exact hs _ _

/-! ## Steps -/

/-- The first `j` chunks of step `n`, from pushed registers. -/
theorem chunks_spec (n : ℕ) (old : Fin 2 → ℕ → Option (FVec F S128x256 .f32)) (hs : ∀ q k, k < 6 → Holds s q k (old q k))
    (hreg : ∀ q r, s.reg q r = if r = regOf n then some ⟨.bf16, false, wAt M2 M3 c f2 f3 n⟩ else none) (j : ℕ) (hj : j ≤ 6) :
    (∀ q k, k < 6 → Holds (chunks M2 M3 M7 c f2 f3 X s n j) q k
      (if k < j then some (onto (if n = 12 then none else old q k) (passAt M2 M3 M7 c f2 f3 X n q k)) else old q k))
    ∧ (∀ q r, (chunks M2 M3 M7 c f2 f3 X s n j).reg q r
      = if r = regOf n ∧ j = 0 then some ⟨.bf16, false, wAt M2 M3 c f2 f3 n⟩ else none) := by
  induction j with
  | zero =>
    refine ⟨fun q k hk => ?_, fun q r => ?_⟩
    · rw [if_neg (Nat.not_lt_zero k)]; exact hs q k hk
    · unfold chunks; rw [hreg]; simp
  | succ j ih =>
    obtain ⟨ih, ir⟩ := ih (by omega)
    unfold chunks
    generalize hs1 : (if n = 12 then pops (chunks M2 M3 M7 c f2 f3 X s n j) j else chunks M2 M3 M7 c f2 f3 X s n j) = s1
    have hr1 : ∀ q r, s1.reg q r = if r = regOf n ∧ j = 0 then some ⟨.bf16, false, wAt M2 M3 c f2 f3 n⟩ else none := by
      intro q r; rw [← hs1, ← ir q r]; split <;> rfl
    refine ⟨fun q k hk => ?_, fun q r => ?_⟩
    · by_cases hkj : k = j
      · subst hkj
        rw [if_pos (Nat.lt_succ_self k)]
        refine holds_accs M2 M3 M7 c f2 f3 X n k (fun h0 q => by rw [hr1, if_pos ⟨rfl, h0⟩]) q ?_
        have hold := ih q k hk
        rw [if_neg (Nat.lt_irrefl k)] at hold
        rw [← hs1]
        split
        · exact holds_pops k q
        · exact hold
      · have hiff : k < j + 1 ↔ k < j := by omega
        simp only [hiff]
        refine holds_accs_ne M2 M3 M7 c f2 f3 X n j q (by omega) hk hkj ?_
        rw [← hs1]
        split
        · exact holds_pops_ne j q (by omega) hk hkj (by simpa [*] using ih q k hk)
        · simpa [*] using ih q k hk
    · rw [reg_accs, hr1]
      by_cases h0 : j = 0 <;> by_cases hr : r = regOf n <;> simp [h0, hr]

theorem push_holds (n : ℕ) (old : Fin 2 → ℕ → Option (FVec F S128x256 .f32)) (hs : ∀ q k, k < 6 → Holds s q k (old q k)) (q : Fin 2) (k : ℕ)
    (hk : k < 6) : Holds (push M2 M3 c f2 f3 s n) q k (old q k) :=
  holds_pushed _ _ _ (holds_pushed _ _ _ (hs q k hk))

/-- The units after `n` steps. -/
theorem state_spec (n : ℕ) :
    (∀ q k, k < 6 → Holds (state M2 M3 M7 c f2 f3 X n) q k (part M2 M3 M7 c f2 f3 X q k n))
    ∧ ∀ q r, (state M2 M3 M7 c f2 f3 X n).reg q r = none := by
  induction n with
  | zero => exact ⟨fun _ _ _ _ => rfl, fun _ _ => rfl⟩
  | succ n ih =>
    have h := chunks_spec M2 M3 M7 c f2 f3 X n (fun q k => part M2 M3 M7 c f2 f3 X q k n) (push_holds M2 M3 c f2 f3 n _ ih.1)
      (reg_push M2 M3 c f2 f3 n ih.2) 6 le_rfl
    refine ⟨fun q k hk => ?_, fun q r => ?_⟩
    · have := h.1 q k hk
      rw [if_pos hk] at this
      exact this
    · exact (h.2 q r).trans (by simp)

theorem drained_spec (j : ℕ) (hj : j ≤ 6) (q : Fin 2) (k : ℕ) (hk : k < 6) (hjk : j ≤ k) :
    Holds (drained M2 M3 M7 c f2 f3 X j) q k (part M2 M3 M7 c f2 f3 X q k 24) := by
  induction j with
  | zero => exact (state_spec M2 M3 M7 c f2 f3 X 24).1 q k hk
  | succ j ih => exact holds_pops_ne j q (by omega) hk (by omega) (ih (by omega) (by omega))

/-- A block about to be popped holds the twelve passes of its column half. -/
theorem before_spec (t : ℕ) (ht : t < 2) (q : Fin 2) (k : ℕ) (hk : k < 6) :
    Holds (before M2 M3 M7 c f2 f3 X t k) q k (part M2 M3 M7 c f2 f3 X q k (t * 12 + 12)) := by
  unfold before
  split
  next h =>
    subst h
    have h := (chunks_spec M2 M3 M7 c f2 f3 X 12 (fun q k => part M2 M3 M7 c f2 f3 X q k 12)
      (push_holds M2 M3 c f2 f3 12 _ (state_spec M2 M3 M7 c f2 f3 X 12).1)
      (reg_push M2 M3 c f2 f3 12 (state_spec M2 M3 M7 c f2 f3 X 12).2) k (by omega)).1 q k hk
    rw [if_neg (Nat.lt_irrefl k)] at h
    exact h
  next h =>
    obtain rfl : t = 1 := by omega
    exact drained_spec M2 M3 M7 c f2 f3 X k (by omega) q k hk le_rfl

/-- The value of stored block `m`. -/
def outVal (m : ℕ) : FVec F S128x256 .f32 :=
  if m % 2 = 0 then (before M2 M3 M7 c f2 f3 X (m / 12) (m / 2 % 6)).read 0 (m / 2 % 6 % 6 * 32) (adr_fits _)
  else ((before M2 M3 M7 c f2 f3 X (m / 12) (m / 2 % 6)).pop 0 (m / 2 % 6 % 6 * 32) 128 (adr_fits _)).read 1 (m / 2 % 6 % 6 * 32) (adr_fits _)

theorem outVal_eq (m : ℕ) (hm : m < 24) :
    some (outVal M2 M3 M7 c f2 f3 X m) = part M2 M3 M7 c f2 f3 X (regOf m) (m / 2 % 6) (m / 12 * 12 + 12) := by
  have hk : m / 2 % 6 < 6 := Nat.mod_lt _ (by decide)
  have hb := fun q => before_spec M2 M3 M7 c f2 f3 X (m / 12) (by omega) q (m / 2 % 6) hk
  unfold outVal
  split
  next h =>
    have e : regOf m = 0 := Fin.ext h
    have hb := hb 0
    rw [e]
    unfold part at hb ⊢
    exact congrArg some hb.2
  next h =>
    have e : regOf m = 1 := Fin.ext (show m % 2 = 1 by omega)
    have hb := holds_pop_ne (hb 1) (apart01 (m / 2 % 6) (m / 2 % 6))
    rw [e]
    unfold part at hb ⊢
    exact congrArg some hb.2

end Body

end Cert.Proof.K

end
-- ==== Proof.Sums.lean ====
/-
  The stored blocks at exact arithmetic: each element is one sum of 2880 products.
-/
module

public import proofs.«01_k».proof.Proof.Operands
public import proofs.«01_k».proof.Proof.Units
public import Idealize.ShloMosaic.Lib.MatmulPlain
public import Idealize.ShloMosaic.Lib.IdealHost

@[expose] public section

noncomputable section

namespace Cert.Proof.K

open Cert.Kernel Cert.Kernel.Gen
open Idealize.ShloMosaic Idealize.ShloMosaic.TcCoe Idealize.ShloMosaic.Tactic Idealize.ShloMosaic.ValueIdx
open Idealize.SL Idealize.SL.RA Idealize.SL.BI
open Idealize.SL.Sem
open scoped BigOperators

/-- One pass of the matrix unit, read at an element. -/
theorem pass_apply {φ₁ φ₂ : FTy} (lhs : FVec Ideal S128x256 φ₁) (rhs : FVec Ideal S256x256 φ₂) (r : Fin 128) (s : Fin 256) :
    (FloatOps.mxuPass (F := Ideal) (DotDims.plain 128 256 256) lhs rhs : FVec Ideal S128x256 .f32) (ix2 r s)
      = ∑ k : Fin 256, lhs (ix2 r k) * rhs (ix2 k s) := by
  refine Eq.trans ?_ ((Ideal.matmul_plain_apply (M := 128) (K := 256) (N := 256) none lhs rhs (fun _ => 0) r s).trans (zero_add _))
  exact ((Ideal.matmul_apply (DotDims.plain 128 256 256) none lhs rhs (fun _ => 0) (ix2 r s)).trans (zero_add _)).symm

/-- One term of the product: zero past the last row. -/
def term {C : ℕ} (fx : (⟨3, ![12, 2880, 128]⟩ : Shape).Idx → EReal) (d2 : (⟨2, ![1440, C]⟩ : Shape).Idx → BitVec 8)
    (d3 : (⟨3, ![45, 16, C]⟩ : Shape).Idx → BitVec 16) (b : Fin 12) (r : Fin 128) (j : Fin C) (κ : ℕ) : EReal :=
  if h : κ < 2880 then fx (ix3 b (⟨κ, h⟩ : Fin 2880) r) * weight (F := Ideal) d2 d3 ⟨κ, h⟩ j else 0

/-- One element of the product. -/
def dense {C : ℕ} (fx : (⟨3, ![12, 2880, 128]⟩ : Shape).Idx → EReal) (d2 : (⟨2, ![1440, C]⟩ : Shape).Idx → BitVec 8)
    (d3 : (⟨3, ![45, 16, C]⟩ : Shape).Idx → BitVec 16) (b : Fin 12) (r : Fin 128) (j : Fin C) : EReal :=
  ∑ κ : Fin 2880, fx (ix3 b κ r) * weight (F := Ideal) d2 d3 κ j

theorem sum_term {C : ℕ} (fx : (⟨3, ![12, 2880, 128]⟩ : Shape).Idx → EReal) (d2 : (⟨2, ![1440, C]⟩ : Shape).Idx → BitVec 8)
    (d3 : (⟨3, ![45, 16, C]⟩ : Shape).Idx → BitVec 16) (b : Fin 12) (r : Fin 128) (j : Fin C) (n : ℕ) (hn : n = 3072) :
    ∑ κ ∈ Finset.range n, term fx d2 d3 b r j κ = dense fx d2 d3 b r j := by
  obtain rfl : n = 2880 + 192 := hn
  rw [Finset.sum_range_add, Finset.sum_eq_zero (s := Finset.range 192), add_zero, Finset.sum_range]
  · refine Finset.sum_congr rfl fun κ _ => ?_
    exact dif_pos κ.isLt
  · intro x _
    exact dif_neg (by omega)

section Body

variable (M2 : Memref sig .tc .vmem S1440x512 .i8) (h2 : M2.IsWhole) (M3 : Memref sig .tc .vmem S45x16x512 .i16) (h3 : M3.IsWhole)
  (c : Dev nD) (d2 : S1440x512.Idx → Elt Ideal .i8) (d3 : S45x16x512.Idx → Elt Ideal .i16) (fx : Bf (F := Ideal) c mX)

theorem passAt_apply (n : ℕ) (hn : n < 24) (q : Fin 2) (k : ℕ) (hk : q.val * 6 + k < 12) (r : Fin 128) (s : Fin 256) :
    passAt M2 M3 mT c (h2.unread d2) (h3.unread d3) (tiles c fx) n q k (ix2 r s)
      = ∑ i ∈ Finset.range 256, term (C := 512) fx d2 d3 ⟨q.val * 6 + k, hk⟩ r ⟨n / 12 * 256 + s.val, by omega⟩ (n % 12 * 256 + i) := by
  unfold passAt
  rw [pass_apply, Finset.sum_range]
  refine Finset.sum_congr rfl fun i _ => ?_
  rw [xAt_apply c fx n _ hk, wAt_apply M2 h2 M3 h3 c d2 d3 n hn]
  unfold term
  by_cases h : n % 12 * 256 + i.val < 2880
  · rw [dif_pos h, dif_pos h, dif_pos h]
  · rw [dif_neg h, dif_neg h, dif_neg h]
    exact (congrArg (· * _) Ideal.ofBits_zero_bf16).trans (zero_mul _)

theorem part_apply (t : ℕ) (ht : t < 2) (q : Fin 2) (k : ℕ) (hk : q.val * 6 + k < 12) (r : Fin 128) (s : Fin 256) (j : ℕ) (hj : j < 12) :
    ∃ v, part M2 M3 mT c (h2.unread d2) (h3.unread d3) (tiles c fx) q k (t * 12 + j + 1) = some v ∧
      v (ix2 r s) = ∑ i ∈ Finset.range (j * 256 + 256), term (C := 512) fx d2 d3 ⟨q.val * 6 + k, hk⟩ r ⟨t * 256 + s.val, by omega⟩ i := by
  have ht' : (t * 12 + j) / 12 = t := by omega
  have hm : (t * 12 + j) % 12 = j := by omega
  have hp := passAt_apply M2 h2 M3 h3 c d2 d3 fx (t * 12 + j) (by omega) q k hk r s
  simp only [ht', hm] at hp
  refine ⟨_, rfl, ?_⟩
  induction j with
  | zero =>
    have : (if t * 12 + 0 = 12 then none else part M2 M3 mT c (h2.unread d2) (h3.unread d3) (tiles c fx) q k (t * 12 + 0)) = none := by
      split
      · rfl
      · next h =>
        obtain rfl : t = 0 := by omega
        rfl
    rw [this]
    simp only [Nat.zero_mul, Nat.zero_add] at hp ⊢
    exact hp
  | succ j ih =>
    obtain ih := ih (by omega) (by omega) (by omega)
      (by
        have := passAt_apply M2 h2 M3 h3 c d2 d3 fx (t * 12 + j) (by omega) q k hk r s
        have e1 : (t * 12 + j) / 12 = t := by omega
        have e2 : (t * 12 + j) % 12 = j := by omega
        simp only [e1, e2] at this
        exact this)
    rw [if_neg (by omega)]
    have e : (j + 1) * 256 + 256 = (j * 256 + 256) + 256 := by omega
    have e' : (j + 1) * 256 = j * 256 + 256 := by omega
    rw [e, Finset.sum_range_add, ← ih]
    rw [e'] at hp
    rw [← hp]
    rfl

/-- An element of stored block `m`. -/
theorem outVal_apply (m : ℕ) (hm : m < 24) (r : Fin 128) (s : Fin 256) :
    outVal M2 M3 mT c (h2.unread d2) (h3.unread d3) (tiles c fx) m (ix2 r s)
      = dense (C := 512) fx d2 d3 ⟨m % 2 * 6 + m / 2 % 6, by omega⟩ r ⟨m / 12 * 256 + s.val, by omega⟩ := by
  obtain ⟨v, hv, he⟩ := part_apply M2 h2 M3 h3 c d2 d3 fx (m / 12) (by omega) (regOf m) (m / 2 % 6)
    (by show m % 2 * 6 + m / 2 % 6 < 12; omega) r s 11 (by decide)
  have := (outVal_eq M2 M3 mT c (h2.unread d2) (h3.unread d3) (tiles c fx) m hm).trans hv
  rw [Option.some.inj this, he]
  exact sum_term fx d2 d3 _ r _ _ rfl

end Body

end Cert.Proof.K

end
-- ==== Proof.Block.lean ====
/-
  What the body leaves in the result's block, element by element: the product of `x` and the block's weights.
-/
module

public import proofs.«01_k».proof.Proof.Sums
public import proofs.«01_k».proof.Proof.Frame

@[expose] public section

noncomputable section

namespace Cert.Proof.K

open Cert.Kernel Cert.Kernel.Gen
open Idealize.ShloMosaic Idealize.ShloMosaic.TcCoe Idealize.ShloMosaic.Tactic Idealize.ShloMosaic.ValueIdx
open Idealize.SL Idealize.SL.RA Idealize.SL.BI
open Idealize.SL.Sem

/-- The product at an index of rows and columns: row `128 b + r` is row `r` of batch `b`. -/
def product {C : ℕ} (fx : (⟨3, ![12, 2880, 128]⟩ : Shape).Idx → EReal) (d2 : (⟨2, ![1440, C]⟩ : Shape).Idx → BitVec 8)
    (d3 : (⟨3, ![45, 16, C]⟩ : Shape).Idx → BitVec 16) : (⟨2, ![1536, C]⟩ : Shape).Idx → EReal := fun y =>
  dense fx d2 d3 (⟨(y 0).val / 128, by have := idx2_lt0 y; omega⟩ : Fin 12) (⟨(y 0).val % 128, Nat.mod_lt _ (by decide)⟩ : Fin 128)
    (⟨(y 1).val, idx2_lt1 y⟩ : Fin C)

section Body

variable (M2 : Memref sig .tc .vmem S1440x512 .i8) (h2 : M2.IsWhole) (M3 : Memref sig .tc .vmem S45x16x512 .i16) (h3 : M3.IsWhole)
  (c : Dev nD) (d2 : S1440x512.Idx → Elt Ideal .i8) (d3 : S45x16x512.Idx → Elt Ideal .i16) (fx : Bf (F := Ideal) c mX)

theorem outs_pieces : ∀ n ≤ 24, ∀ p ∈ outs M2 M3 mT c (h2.unread d2) (h3.unread d3) (tiles c fx) n, ∀ x : p.1.shape.Idx,
    p.2 x = product (C := 512) fx d2 d3 (p.1.emb x)
  | 0, _, p, hp => absurd hp List.not_mem_nil
  | n + 1, hn, p, hp => by
    rcases List.mem_cons.mp hp with rfl | hp
    · intro (x : S128x256.Idx)
      obtain ⟨r, s, rfl⟩ : ∃ (r : Fin 128) (s : Fin 256), x = ix2 r s := ⟨x 0, x 1, by funext a; fin_cases a <;> rfl⟩
      have hr := r.isLt
      have hs := s.isLt
      refine (outVal_apply M2 h2 M3 h3 c d2 d3 fx n (by omega) r s).trans ?_
      have e0 : (((Rect.unit (s := S1536x512) ![(n % 2 * 6 + n / 2 % 6) % 12 * 128, n / 12 % 2 * 256] S128x256.size (out_inb _ _)).emb (ix2 r s)) 0).val
          = (n % 2 * 6 + n / 2 % 6) * 128 + r.val := by
        show (n % 2 * 6 + n / 2 % 6) % 12 * 128 + 1 * r.val = _; omega
      have e1 : (((Rect.unit (s := S1536x512) ![(n % 2 * 6 + n / 2 % 6) % 12 * 128, n / 12 % 2 * 256] S128x256.size (out_inb _ _)).emb (ix2 r s)) 1).val
          = n / 12 * 256 + s.val := by
        show n / 12 % 2 * 256 + 1 * s.val = _; omega
      unfold product
      congr 1
      · apply Fin.ext
        show n % 2 * 6 + n / 2 % 6 = _ / 128
        rw [e0]; omega
      · apply Fin.ext
        show _ = _ % 128
        rw [e0]; omega
      · exact Fin.ext e1.symm
    · exact outs_pieces n (by omega) p hp

theorem outs_mem (k : ℕ) : ∀ n, k < n →
    (⟨Rect.unit (s := S1536x512) ![(k % 2 * 6 + k / 2 % 6) % 12 * 128, k / 12 % 2 * 256] S128x256.size (out_inb _ _),
      outVal M2 M3 mT c (h2.unread d2) (h3.unread d3) (tiles c fx) k⟩ : View.Piece (Elt Ideal) S1536x512 .f32)
    ∈ outs M2 M3 mT c (h2.unread d2) (h3.unread d3) (tiles c fx) n
  | 0, h => absurd h (Nat.not_lt_zero _)
  | n + 1, h => by
    rcases Nat.lt_succ_iff_lt_or_eq.mp h with h | rfl
    · exact List.mem_cons_of_mem _ (outs_mem k n h)
    · exact List.mem_cons_self

theorem digits (t b q k : ℕ) (hq : q < 2) (hb : b < 6) (h : t * 12 + b * 2 + q = k) : k % 2 = q ∧ k / 2 % 6 = b ∧ k / 12 = t := by
  refine ⟨by omega, by omega, by omega⟩

theorem read_outs (M4 : Memref sig .tc .vmem S1536x512 .f32) (n : ℕ) (hn : n = 24) (y : S1536x512.Idx) :
    M4.view.read (Elt Ideal) (M4.view.writes (Elt Ideal) M4.view.junk (outs M2 M3 mT c (h2.unread d2) (h3.unread d3) (tiles c fx) n)) y
      = product (C := 512) fx d2 d3 y := by
  have h0 : (y 0).val < 1536 := (y 0).isLt
  have h1 : (y 1).val < 512 := (y 1).isLt
  have hm := outs_mem M2 h2 M3 h3 c d2 d3 fx ((y 1).val / 256 * 12 + (y 0).val / 128 % 6 * 2 + (y 0).val / 128 / 6) n (by omega)
  generalize hk : (y 1).val / 256 * 12 + (y 0).val / 128 % 6 * 2 + (y 0).val / 128 / 6 = k at hm
  obtain ⟨e1, e2, e3⟩ := digits _ _ _ k (by omega) (by omega) hk
  have hy : y ∈ (Rect.unit (s := S1536x512) ![(k % 2 * 6 + k / 2 % 6) % 12 * 128, k / 12 % 2 * 256] S128x256.size (out_inb _ _)).set := by
    rw [Rect.mem_set_unit]
    intro a
    match a with
    | 0 =>
      show (k % 2 * 6 + k / 2 % 6) % 12 * 128 ≤ (y 0).val ∧ (y 0).val < (k % 2 * 6 + k / 2 % 6) % 12 * 128 + 128
      rw [e1, e2]; omega
    | 1 =>
      show k / 12 % 2 * 256 ≤ (y 1).val ∧ (y 1).val < k / 12 % 2 * 256 + 256
      rw [e3]; omega
  exact View.read_writes_apply_of_pieces M4.view M4.view.junk (product (C := 512) fx d2 d3) _
    (outs_pieces M2 h2 M3 h3 c d2 d3 fx n hn.le) y ⟨_, hm, hy⟩

/-- The result's block after the body. -/
theorem outBlk_apply (i : grid0.Coords) (M4 : Memref sig .tc .vmem S1536x512 .f32) (h4 : M4.IsWhole) (y : S1536x512.Idx) :
    outBlk i M2 h2 M3 h3 M4 h4 c d2 d3 (tiles c fx) y = product (C := 512) fx d2 d3 y :=
  (congrArg (fun L => M4.view.read (Elt Ideal) (M4.view.writes (Elt Ideal) M4.view.junk L) y)
    (outs_eq M2 M3 mT c (h2.unread d2) (h3.unread d3) (tiles c fx))).trans
    (read_outs M2 h2 M3 h3 c d2 d3 fx M4 24 rfl y)

end Body

end Cert.Proof.K

end
-- ==== Proof.Target.lean ====
/-
  The two results both programs are compared with: the product, every element one sum of 2880 products in the three
  arguments, and the layout of `x` in tiles of 128 columns.
-/
module

public import proofs.«01_k».proof.Proof.Decode
public import Idealize.ShloMosaic.Lib.IdealHost

@[expose] public section

noncomputable section

namespace Cert.Proof.K

open Idealize.ShloMosaic Idealize.ShloMosaic.ValueIdx
open scoped BigOperators

/-- The weight at row `κ` and column `j`: the level, of group `κ / 64` and column `j`, that half `κ % 2` of the code at
    row `κ / 2` selects. -/
def entry (codes : (⟨2, ![1440, 5120]⟩ : Shape).Idx → BitVec 8) (lut : (⟨3, ![45, 5120, 16]⟩ : Shape).Idx → BitVec 16)
    (κ : Fin 2880) (j : Fin 5120) : EReal :=
  FloatOps.ofBits (F := Ideal) .bf16 (lut (ix3 (⟨κ.val / 64, by omega⟩ : Fin 45) j
    (⟨half (codes (ix2 (⟨κ.val / 2, by omega⟩ : Fin 1440) j)) (κ.val % 2), half_lt _ _⟩ : Fin 16)))

/-- Row `128 b + s` of the product: row `s` of batch `b` of `x` with the weights. -/
def target (x : (⟨3, ![12, 128, 2880]⟩ : Shape).Idx → EReal) (codes : (⟨2, ![1440, 5120]⟩ : Shape).Idx → BitVec 8)
    (lut : (⟨3, ![45, 5120, 16]⟩ : Shape).Idx → BitVec 16) : (⟨2, ![1536, 5120]⟩ : Shape).Idx → EReal := fun y =>
  ∑ κ : Fin 2880, x (ix3 (⟨(y 0).val / 128, by have := idx2_lt0 y; omega⟩ : Fin 12) (⟨(y 0).val % 128, Nat.mod_lt _ (by decide)⟩ : Fin 128) κ)
    * entry codes lut κ (⟨(y 1).val, idx2_lt1 y⟩ : Fin 5120)

/-- The rows of `x` in 23 tiles of 128 columns, zero in the columns past the last of `x`. -/
def layout (x : (⟨3, ![12, 128, 2880]⟩ : Shape).Idx → EReal) : (⟨3, ![23, 1536, 128]⟩ : Shape).Idx → EReal := fun y =>
  if h : (y 0).val * 128 + (y 2).val < 2880 then
    x (ix3 (⟨(y 1).val / 128, by have h1 : (y 1).val < 1536 := (y 1).isLt; omega⟩ : Fin 12)
      (⟨(y 1).val % 128, Nat.mod_lt _ (by decide)⟩ : Fin 128) (⟨(y 0).val * 128 + (y 2).val, h⟩ : Fin 2880))
  else FloatOps.ofBits (F := Ideal) .bf16 0#16

end Cert.Proof.K

end
-- ==== Proof.Array.lean ====
/-
  The two results' arrays after the run, in the arguments as launched.
-/
module

public import proofs.«01_k».proof.Proof.Block
public import proofs.«01_k».proof.Proof.Target
public import Idealize.ShloMosaic.Lib.Pipeline.ValueKit.Geometry

@[expose] public section

noncomputable section

namespace Cert.Proof.K

open Cert.Kernel Cert.Kernel.Gen
open Idealize.ShloMosaic Idealize.ShloMosaic.TcCoe Idealize.ShloMosaic.Tactic Idealize.ShloMosaic.ValueIdx
open Idealize.SL Idealize.SL.RA Idealize.SL.BI
open Idealize.SL.Sem
open Idealize.ShloMosaic.Pipeline (Dat Cfg Window)
open scoped BigOperators

/-- A block of the product's columns is the product with that block of the weights' columns. -/
theorem product_cols (fx : (⟨3, ![12, 2880, 128]⟩ : Shape).Idx → EReal) (d2 : (⟨2, ![1440, 512]⟩ : Shape).Idx → BitVec 8)
    (d3 : (⟨3, ![45, 16, 512]⟩ : Shape).Idx → BitVec 16) (D2 : (⟨2, ![1440, 5120]⟩ : Shape).Idx → BitVec 8)
    (D3 : (⟨3, ![45, 16, 5120]⟩ : Shape).Idx → BitVec 16) (e : Fin 512 → Fin 5120)
    (h2 : ∀ (r : Fin 1440) (j : Fin 512), d2 (ix2 r j) = D2 (ix2 r (e j)))
    (h3 : ∀ (g : Fin 45) (l : Fin 16) (j : Fin 512), d3 (ix3 g l j) = D3 (ix3 g l (e j)))
    (r : Fin 1536) (j : Fin 512) : product fx d2 d3 (ix2 r j) = product fx D2 D3 (ix2 r (e j)) := by
  show dense fx d2 d3 _ _ j = dense fx D2 D3 _ _ (e j)
  unfold dense weight
  simp only [h2, h3]

/-- The product in the arguments' own layouts. -/
theorem product_target (x : (⟨3, ![12, 128, 2880]⟩ : Shape).Idx → EReal) (lut : (⟨3, ![45, 5120, 16]⟩ : Shape).Idx → BitVec 16)
    (fx : (⟨3, ![12, 2880, 128]⟩ : Shape).Idx → EReal) (codes : (⟨2, ![1440, 5120]⟩ : Shape).Idx → BitVec 8)
    (D3 : (⟨3, ![45, 16, 5120]⟩ : Shape).Idx → BitVec 16)
    (hx : ∀ (b : Fin 12) (κ : Fin 2880) (r : Fin 128), fx (ix3 b κ r) = x (ix3 b r κ))
    (hl : ∀ (g : Fin 45) (l : Fin 16) (j : Fin 5120), D3 (ix3 g l j) = lut (ix3 g j l)) :
    product fx codes D3 = target x codes lut := by
  funext y
  unfold product target dense weight entry
  simp only [hx, hl]

variable (m : (ℓ : Loc nD τ sig) → Buf (Elt Ideal) ℓ) (ρ : Dev nD → PrngReg)

/-- The block index of each window is the grid point. -/
theorem idx0 : ∀ t : Fin cfg0.N, win0_0.index t (0 : Fin 2) = 0 ∧ win0_0.index t (1 : Fin 2) = t.val := (by decide +kernel : ∀ t : Fin grid0.N, _)
theorem idx1 : ∀ t : Fin cfg0.N, win0_1.index t (0 : Fin 3) = 0 ∧ win0_1.index t (1 : Fin 3) = 0 ∧ win0_1.index t (2 : Fin 3) = t.val :=
  (by decide +kernel : ∀ t : Fin grid0.N, _)
theorem idx2 : ∀ t : Fin cfg0.N, win0_2.index t (0 : Fin 2) = 0 ∧ win0_2.index t (1 : Fin 2) = t.val := (by decide +kernel : ∀ t : Fin grid0.N, _)

/-- A column of point `t`'s block, in the array. -/
def col (t : Fin cfg0.N) (j : Fin 512) : Fin 5120 := ⟨t.val * 512 + j.val, by have : t.val < 10 := t.isLt; omega⟩

theorem iblk0_apply (c : Dev nD) (t : Fin cfg0.N) (r : Fin 1440) (j : Fin 512) :
    (iblk m c 0 t : S1440x512.Idx → BitVec 8) (ix2 r j) = (V m c main_arg1 : S1440x5120.Idx → BitVec 8) (ix2 r (col t j)) := by
  obtain ⟨e0, e1⟩ := idx0 t
  show (V m c main_arg1 : S1440x5120.Idx → BitVec 8) (((cfg0.win 0).blk t).view.emb (ix2 r j)) = _
  congr 1
  funext a; apply Fin.ext
  match a with
  | ⟨0, _⟩ => show win0_0.index t (0 : Fin 2) * 1440 + 1 * r.val = r.val; omega
  | ⟨1, _⟩ => show win0_0.index t (1 : Fin 2) * 512 + 1 * j.val = t.val * 512 + j.val; rw [e1]; omega

theorem iblk1_apply (c : Dev nD) (t : Fin cfg0.N) (g : Fin 45) (l : Fin 16) (j : Fin 512) :
    (iblk m c 1 t : S45x16x512.Idx → BitVec 16) (ix3 g l j) = (V m c main_v1 : S45x16x5120.Idx → BitVec 16) (ix3 g l (col t j)) := by
  obtain ⟨e0, e1, e2⟩ := idx1 t
  show (V m c main_v1 : S45x16x5120.Idx → BitVec 16) (((cfg0.win 1).blk t).view.emb (ix3 g l j)) = _
  congr 1
  funext a; apply Fin.ext
  match a with
  | ⟨0, _⟩ => show win0_1.index t (0 : Fin 3) * 45 + 1 * g.val = g.val; omega
  | ⟨1, _⟩ => show win0_1.index t (1 : Fin 3) * 16 + 1 * l.val = l.val; omega
  | ⟨2, _⟩ => show win0_1.index t (2 : Fin 3) * 512 + 1 * j.val = t.val * 512 + j.val; rw [e2]; omega

theorem emb2_eq (t : Fin cfg0.N) (r : Fin 1536) (j : Fin 512) :
    (((cfg0.win 2).blk t).view.emb (ix2 r j) : S1536x5120.Idx) = ix2 r (col t j) := by
  obtain ⟨e0, e1⟩ := idx2 t
  funext a; apply Fin.ext
  match a with
  | ⟨0, _⟩ => show win0_2.index t (0 : Fin 2) * 1536 + 1 * r.val = r.val; omega
  | ⟨1, _⟩ => show win0_2.index t (1 : Fin 2) * 512 + 1 * j.val = t.val * 512 + j.val; rw [e1]; omega

/-- The product of the arrays the pipeline reads. -/
def whole (c : Dev nD) : S1536x5120.Idx → EReal := product (C := 5120) (V m c main_v0) (V m c main_arg1) (V m c main_v1)

theorem covers2 : win0_2.Covers := by decide +kernel

theorem final2 (c : Dev nD) : (dats m 0 c).arrAt 2 cfg0.N = whole m c := by
  refine Pipeline.Dat.arrAt_eq_of_covers (dats m 0 c) 2 (whole m c) covers2 (fun t _ => ?_)
  intro (y : S1536x512.Idx)
  obtain ⟨r, j, rfl⟩ : ∃ (r : Fin 1536) (j : Fin 512), y = ix2 r j := ⟨y 0, y 1, by funext a; fin_cases a <;> rfl⟩
  show outAt m c t (ix2 r j) = whole m c (((cfg0.win 2).blk t).view.emb (ix2 r j))
  rw [emb2_eq]
  exact (outBlk_apply _ _ _ _ c _ _ _ _ _ _ _).trans
    (product_cols _ _ _ _ _ (col t) (iblk0_apply m c t) (iblk1_apply m c t) r j)

theorem V_v0 (c : Dev nD) : V m c main_v0 = transpose S12x2880x128 [0, 2, 1] (m ((c : Thread nD τ).loc main_arg0)) transposes_S12x128x2880_S12x2880x128_0_2_1 := rfl
theorem V_v1 (c : Dev nD) : V m c main_v1 = transpose S45x16x5120 [0, 2, 1] (m ((c : Thread nD τ).loc main_arg2)) transposes_S45x5120x16_S45x16x5120_0_2_1 := rfl

theorem whole_eq (c : Dev nD) : whole m c
    = target (m ((c : Thread nD τ).loc main_arg0)) (m ((c : Thread nD τ).loc main_arg1)) (m ((c : Thread nD τ).loc main_arg2)) := by
  unfold whole
  rw [V_main_arg1]
  refine product_target _ _ _ _ _ (fun b κ r => ?_) (fun g l j => ?_)
  · rw [V_v0]
    exact transpose_ix3_021_apply ..
  · rw [V_v1]
    exact transpose_ix3_021_apply ..

theorem saved_eq (c : Dev nD) : saved c (V m c main_v0) = layout (m ((c : Thread nD τ).loc main_arg0)) := by
  funext (y : S23x1536x128.Idx)
  unfold saved tiles layout
  by_cases h : (y 0).val * 128 + (y 2).val < 2880
  · rw [dif_pos h, dif_pos h, V_v0]
    exact transpose_ix3_021_apply ..
  · rw [dif_neg h, dif_neg h]

/-- The run: the results in the arguments, and the arguments as launched. -/
theorem value_run : θ_run defs (onTc (τ := τ) (main (F := Ideal))) ⟨m, fun _ => 0, ρ⟩ (fun r => ∀ c : Dev nD,
      r.2.mem ((c.tc : Thread nD τ).loc main_v2_0)
        = target (m ((c.tc : Thread nD τ).loc main_arg0)) (m ((c.tc : Thread nD τ).loc main_arg1)) (m ((c.tc : Thread nD τ).loc main_arg2))
      ∧ r.2.mem ((c.tc : Thread nD τ).loc main_v2_1) = layout (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1.1 c).1 2).trans ((final2 m c).trans (whole_eq m c)),
      (h.1.2 c main_v2_1 (by decide)).trans ((G_eq m c).trans (saved_eq m c)),
      ((h.1.1 c).2 main_arg0 (Finset.mem_sdiff.mpr ⟨Pipeline.mem_restRefs_of main_arg0 (by decide) (by decide), by decide⟩)).trans (V_main_arg0 m c),
      ((h.1.1 c).1 0).trans (((dats m 0 c).arrAt_in 0 rfl _).trans ((A_eq m c 0).trans (V_main_arg1 m c))),
      ((h.1.1 c).2 main_arg2 (Finset.mem_sdiff.mpr ⟨Pipeline.mem_restRefs_of main_arg2 (by decide) (by decide), by decide⟩)).trans (V_main_arg2 m c)⟩) (run_main m ρ)

end Cert.Proof.K

end
-- ==== Proof.RefSide.lean ====
/-
  The reference's results at exact arithmetic: its select trees read the level a code's half names, its two products,
  over the even and the odd rows of weights, add up to the one sum of 2880 products, and its rows of `x` with zeros
  appended are cut into the tiles.
-/
module

public import proofs.«01_k».proof.Proof.Target
public import proofs.«01_k».proof.Proof.Gen.ReferenceIdeal
public import proofs.«01_k».proof.Proof.Gen.ReferenceIdeal.Run
public import Idealize.ShloMosaic.Lib.ValueLayout
public import Idealize.ShloMosaic.Lib.IdealHost

@[expose] public section

noncomputable section

namespace Cert.Proof.R

open Cert.ReferenceIdeal Cert.ReferenceIdeal.Gen Cert.ReferenceIdeal.Value
open Idealize.ShloMosaic Idealize.ShloMosaic.TcCoe Idealize.ShloMosaic.ValueIdx Idealize.ShloMosaic.StableHlo
open Idealize.SL.Sem
open Cert.Proof.K (half half_lt entry target layout)
open scoped BigOperators

variable {F : FTy → Type} [FloatOps F]

/-! ## The select tree -/

/-- Bit `s` of a field. -/
def bit (f : IVec S45x32x5120 32) (s : ℕ) : IVec S45x32x5120 1 :=
  cmpi .eq (andi (Host.shrsi f (broadcastInDim S45x32x5120 ![] bcast_S_S45x32x5120 (constantI S_ 32 (BitVec.ofNat 32 s))))
    (broadcastInDim S45x32x5120 ![] bcast_S_S45x32x5120 (constantI S_ 32 1#32))) (broadcastInDim S45x32x5120 ![] bcast_S_S45x32x5120 (constantI S_ 32 1#32))

theorem level_slices (c : ℕ) : S45x5120x16.Slices ![0, 0, c % 16] S45x5120x1 :=
  ⟨rfl, fun a => match a with
    | 0 => le_rfl
    | 1 => le_rfl
    | 2 => Nat.succ_le_of_lt (Nat.mod_lt c (by decide))⟩

/-- Level `c` of every group and column, for every row of codes of the group. -/
def level (v : FVec F S45x5120x16 .bf16) (c : ℕ) : FVec F S45x32x5120 .bf16 :=
  broadcastInDim S45x32x5120 ![0, 1, 2] bcast_S45x1x5120_S45x32x5120_0_1_2 (broadcastInDim S45x1x5120 ![0, 2] bcast_S45x5120_S45x1x5120_0_2
    (shapeCast S45x5120 (extractStridedSlice S45x5120x1 ![0, 0, c % 16] v (level_slices c)) shapeCasts_S45x5120x1_S45x5120))

/-- The tree over the low `s` bits, from level `o` on. -/
def pick (f : IVec S45x32x5120 32) (v : FVec F S45x5120x16 .bf16) : ℕ → ℕ → FVec F S45x32x5120 .bf16
  | 0, o => level v o
  | s + 1, o => select (bit f s) (pick f v s (o + 2 ^ s)) (pick f v s o)

theorem level_apply (v : FVec F S45x5120x16 .bf16) (c : ℕ) (hc : c < 16) (g : Fin 45) (r : Fin 32) (j : Fin 5120) :
    level v c (ix3 g r j) = v (ix3 g j (⟨c, hc⟩ : Fin 16)) := by
  unfold level
  rw [broadcastInDim_apply (k := ix3 g (0 : Fin 1) j) (hk := fun a => match a with | 0 => rfl | 1 => rfl | 2 => rfl)]
  rw [broadcastInDim_apply (k := ix2 g j) (hk := fun a => match a with | 0 => rfl | 1 => rfl)]
  rw [shapeCast_apply (k := ix3 g j (0 : Fin 1)) (hk := by
    rw [Shape.rowMajor_val_three, Shape.rowMajor_val_two]
    show (g.val * 5120 + j.val) * 1 + 0 = g.val * 5120 + j.val
    omega)]
  rw [extractStridedSlice_apply (k := ix3 g j (⟨c, hc⟩ : Fin 16))]
  intro a
  match a with
  | 0 => show g.val = 0 + g.val; omega
  | 1 => show j.val = 0 + j.val; omega
  | 2 => show c = c % 16 + 0; omega

theorem bit_word : ∀ (n : Fin 16) (s : Fin 4), IntOp.cmpi .eq (IntOp.andi (IntOp.shrsi .host (BitVec.ofNat 32 n.val) (BitVec.ofNat 32 s.val)) 1#32) 1#32
    = BitVec.ofBool (n.val.testBit s.val) := by decide +kernel

theorem mod_step : ∀ (n : Fin 16) (s : Fin 4), n.val % 2 ^ (s.val + 1) = n.val % 2 ^ s.val + 2 ^ s.val * (n.val.testBit s.val).toNat := by decide +kernel

theorem pick_apply (f : IVec S45x32x5120 32) (v : FVec F S45x5120x16 .bf16) (g : Fin 45) (r : Fin 32) (j : Fin 5120) (n : Fin 16)
    (hf : f (ix3 g r j) = BitVec.ofNat 32 n.val) :
    ∀ s ≤ 4, ∀ o, ∀ h : o + n.val % 2 ^ s < 16, pick f v s o (ix3 g r j) = v (ix3 g j (⟨o + n.val % 2 ^ s, h⟩ : Fin 16))
  | 0, _, o, h => by
    have e : o + n.val % 2 ^ 0 = o := by simp [Nat.mod_one]
    simp only [e]
    exact level_apply v o (by omega) g r j
  | s + 1, hs, o, h => by
    have hb : bit f s (ix3 g r j) = BitVec.ofBool (n.val.testBit s) :=
      (congrArg (fun w => IntOp.cmpi .eq (IntOp.andi (IntOp.shrsi .host w (BitVec.ofNat 32 s)) 1#32) 1#32) hf).trans (bit_word n ⟨s, by omega⟩)
    have hm : n.val % 2 ^ (s + 1) = n.val % 2 ^ s + 2 ^ s * (n.val.testBit s).toNat := mod_step n ⟨s, by omega⟩
    show Scalar.select (bit f s (ix3 g r j)) (pick f v s (o + 2 ^ s) (ix3 g r j)) (pick f v s o (ix3 g r j)) = _
    rw [hb]
    cases ht : n.val.testBit s with
    | false =>
      rw [ht] at hm
      have e : n.val % 2 ^ (s + 1) = n.val % 2 ^ s := by simpa using hm
      simp only [e] at h ⊢
      exact pick_apply f v g r j n hf s (by omega) o h
    | true =>
      rw [ht] at hm
      have e : o + n.val % 2 ^ (s + 1) = o + 2 ^ s + n.val % 2 ^ s := by
        have : n.val % 2 ^ (s + 1) = n.val % 2 ^ s + 2 ^ s := by simpa using hm
        omega
      simp only [e] at h ⊢
      exact pick_apply f v g r j n hf s (by omega) (o + 2 ^ s) h

theorem v93_eq (V0 : Valuation τ sig (Elt F)) : res_main_v93 V0 = pick (res_main_v6 V0) (res_main_v0 V0) 4 0 := rfl
theorem v182_eq (V0 : Valuation τ sig (Elt F)) : res_main_v182 V0 = pick (res_main_v95 V0) (res_main_v0 V0) 4 0 := rfl

/-! ## The fields and the weights -/

theorem low_word : ∀ b : Fin 256, IntOp.andi ((BitVec.ofNat 8 b.val).setWidth 32) 15#32 = BitVec.ofNat 32 (half (BitVec.ofNat 8 b.val) 0) := by
  decide +kernel
theorem high_word : ∀ b : Fin 256, IntOp.shrsi .host ((BitVec.ofNat 8 b.val).setWidth 32) 4#32 = BitVec.ofNat 32 (half (BitVec.ofNat 8 b.val) 1) := by
  decide +kernel

theorem low_code (b : BitVec 8) : IntOp.andi (b.setWidth 32) 15#32 = BitVec.ofNat 32 (half b 0) := by
  have := low_word ⟨b.toNat, b.isLt⟩
  simpa only [BitVec.ofNat_toNat, BitVec.setWidth_eq] using this
theorem high_code (b : BitVec 8) : IntOp.shrsi .host (b.setWidth 32) 4#32 = BitVec.ofNat 32 (half b 1) := by
  have := high_word ⟨b.toNat, b.isLt⟩
  simpa only [BitVec.ofNat_toNat, BitVec.setWidth_eq] using this

/-- A field of the codes whose words are the codes' halves `p`, decoded and laid out by rows, is every second row of the
    weights. -/
theorem weights_apply (f : IVec S45x32x5120 32) (codes : S1440x5120.Idx → BitVec 8) (lut : S45x5120x16.Idx → BitVec 16) (p : ℕ) (hp : p < 2)
    (hf : ∀ (g : Fin 45) (r : Fin 32) (j : Fin 5120), f (ix3 g r j) = BitVec.ofNat 32 (half (codes (ix2 (⟨g.val * 32 + r.val, by omega⟩ : Fin 1440) j)) p))
    (k : Fin 1440) (j : Fin 5120) :
    shapeCast S1440x5120 (pick f (bitcastToFloat (F := Ideal) .bf16 lut) 4 0) shapeCasts_S45x32x5120_S1440x5120 (ix2 k j)
      = entry codes lut (⟨2 * k.val + p, by omega⟩ : Fin 2880) j := by
  have hk := k.isLt
  rw [shapeCast_apply (k := ix3 (⟨k.val / 32, by omega⟩ : Fin 45) (⟨k.val % 32, Nat.mod_lt _ (by decide)⟩ : Fin 32) j) (hk := by
    rw [Shape.rowMajor_val_three, Shape.rowMajor_val_two]
    show (k.val / 32 * 32 + k.val % 32) * 5120 + j.val = k.val * 5120 + j.val
    omega)]
  have hf' := hf (⟨k.val / 32, by omega⟩ : Fin 45) (⟨k.val % 32, Nat.mod_lt _ (by decide)⟩ : Fin 32) j
  have e1 : k.val / 32 * 32 + k.val % 32 = k.val := by omega
  simp only [e1] at hf'
  have hl := half_lt (codes (ix2 k j)) p
  rw [pick_apply f _ _ _ j ⟨_, hl⟩ hf' 4 le_rfl 0 (by simp only [Nat.zero_add]; omega)]
  have e2 : 0 + half (codes (ix2 k j)) p % 2 ^ 4 = half (codes (ix2 k j)) p := by omega
  have e3 : (2 * k.val + p) / 64 = k.val / 32 := by omega
  have e4 : (2 * k.val + p) / 2 = k.val := by omega
  have e5 : (2 * k.val + p) % 2 = p := by omega
  unfold entry
  simp only [e2, e3, e4, e5]
  rfl

theorem v6_apply (V0 : Valuation τ sig (Elt Ideal)) (g : Fin 45) (r : Fin 32) (j : Fin 5120) :
    res_main_v6 V0 (ix3 g r j) = BitVec.ofNat 32 (half ((V0 (Proc.devRef .tc main_arg1) : S1440x5120.Idx → BitVec 8) (ix2 (⟨g.val * 32 + r.val, by omega⟩ : Fin 1440) j)) 0) := by
  unfold res_main_v6
  rw [shapeCast_apply (k := ix2 (⟨g.val * 32 + r.val, by omega⟩ : Fin 1440) j) (hk := by
    refine (Shape.rowMajor_val_two _).trans (Eq.trans ?_ (Shape.rowMajor_val_three _).symm)
    rfl)]
  exact low_code _

theorem v95_apply (V0 : Valuation τ sig (Elt Ideal)) (g : Fin 45) (r : Fin 32) (j : Fin 5120) :
    res_main_v95 V0 (ix3 g r j) = BitVec.ofNat 32 (half ((V0 (Proc.devRef .tc main_arg1) : S1440x5120.Idx → BitVec 8) (ix2 (⟨g.val * 32 + r.val, by omega⟩ : Fin 1440) j)) 1) := by
  unfold res_main_v95
  rw [shapeCast_apply (k := ix2 (⟨g.val * 32 + r.val, by omega⟩ : Fin 1440) j) (hk := by
    refine (Shape.rowMajor_val_two _).trans (Eq.trans ?_ (Shape.rowMajor_val_three _).symm)
    rfl)]
  exact high_code _

/-! ## The products -/

abbrev dd : DotDims S12x128x1440 S1440x5120 S12x128x5120 := dot_S12x128x1440_S1440x5120_S12x128x5120_2_0_01_1_n_n

theorem dot_apply (L : FVec Ideal S12x128x1440 .bf16) (R : FVec Ideal S1440x5120 .bf16) (b : Fin 12) (s : Fin 128) (j : Fin 5120) :
    (Host.dotGeneral dd none L R : FVec Ideal S12x128x5120 .f32) (ix3 b s j) = ∑ k : Fin 1440, L (ix3 b s k) * R (ix2 k j) := by
  have hr : dd.contr.rank = 1 := rfl
  have hs : dd.contr.size ⟨0, by rw [hr]; exact Nat.one_pos⟩ = 1440 := rfl
  refine (Ideal.dotGeneral_apply dd none .single L R (ix3 b s j)).trans ?_
  rw [← Equiv.sum_comp (contrEquiv1 dd 1440 hr hs).symm]
  refine Finset.sum_congr rfl fun k _ => ?_
  have hk := contrEquiv1_symm_val dd 1440 hr hs k
  have el : dd.lhsIdx (ix3 b s j) ((contrEquiv1 dd 1440 hr hs).symm k) = ix3 b s k := by
    funext a; apply Fin.ext
    match a with
    | ⟨0, _⟩ => rfl
    | ⟨1, _⟩ => rfl
    | ⟨2, _⟩ => exact hk
  have er : dd.rhsIdx (ix3 b s j) ((contrEquiv1 dd 1440 hr hs).symm k) = ix2 k j := by
    funext a; apply Fin.ext
    match a with
    | ⟨0, _⟩ => exact hk
    | ⟨1, _⟩ => rfl
  rw [el, er]

/-- Every second element along the last axis. -/
theorem slice_apply (x : S12x128x2880.Idx → EReal) (p : ℕ) (hp : p < 2) (h : S12x128x2880.SlicesBy ![0, 0, p] ![1, 1, 2] S12x128x1440)
    (b : Fin 12) (s : Fin 128) (k : Fin 1440) :
    Host.slice S12x128x1440 ![0, 0, p] ![1, 1, 2] x h (ix3 b s k) = x (ix3 b s (⟨2 * k.val + p, by omega⟩ : Fin 2880)) := by
  unfold Host.slice
  refine congrArg x (funext fun a => Fin.ext ?_)
  match a with
  | ⟨0, _⟩ => show 0 + 1 * b.val = b.val; omega
  | ⟨1, _⟩ => show 0 + 1 * s.val = s.val; omega
  | ⟨2, _⟩ => show p + 2 * k.val = 2 * k.val + p; omega

/-- A sum over 2880 by even and odd indices. -/
theorem sum_even_odd (t : Fin 2880 → EReal) :
    (∑ k : Fin 1440, t ⟨2 * k.val + 0, by omega⟩) + (∑ k : Fin 1440, t ⟨2 * k.val + 1, by omega⟩) = ∑ κ : Fin 2880, t κ := by
  rw [← Finset.sum_add_distrib, ← Equiv.sum_comp (finProdFinEquiv (m := 1440) (n := 2)) t, Fintype.sum_prod_type]
  refine Finset.sum_congr rfl fun k _ => ?_
  rw [Fin.sum_univ_two]
  refine congrArg₂ (· + ·) (congrArg t (Fin.ext ?_)) (congrArg t (Fin.ext ?_))
  · show 2 * k.val + 0 = 0 + 2 * k.val; omega
  · show 2 * k.val + 1 = 1 + 2 * k.val; omega

/-- The two products over every second row of the weights, laid out by rows of `x`, are the target. -/
theorem result_eq (x : FVec Ideal S12x128x2880 .bf16) (w0 w1 : FVec Ideal S1440x5120 .bf16) (codes : S1440x5120.Idx → BitVec 8) (lut : S45x5120x16.Idx → BitVec 16)
    (h0 : ∀ k j, w0 (ix2 k j) = entry codes lut (⟨2 * k.val + 0, by omega⟩ : Fin 2880) j)
    (h1 : ∀ k j, w1 (ix2 k j) = entry codes lut (⟨2 * k.val + 1, by omega⟩ : Fin 2880) j) :
    shapeCast S1536x5120 (addf (Host.dotGeneral dd none (Host.slice S12x128x1440 ![0, 0, 0] ![1, 1, 2] x slicesBy_S12x128x2880_S12x128x1440_0s1_0s1_0s2) w0)
      (Host.dotGeneral dd none (Host.slice S12x128x1440 ![0, 0, 1] ![1, 1, 2] x slicesBy_S12x128x2880_S12x128x1440_0s1_0s1_1s2) w1) : FVec Ideal S12x128x5120 .f32) shapeCasts_S12x128x5120_S1536x5120
    = target x codes lut := by
  funext (y : S1536x5120.Idx)
  obtain ⟨q, j, rfl⟩ : ∃ (q : Fin 1536) (j : Fin 5120), y = ix2 q j := ⟨y 0, y 1, by funext a; fin_cases a <;> rfl⟩
  have hq := q.isLt
  rw [shapeCast_apply (k := ix3 (⟨q.val / 128, by omega⟩ : Fin 12) (⟨q.val % 128, Nat.mod_lt _ (by decide)⟩ : Fin 128) j) (hk := by
    rw [Shape.rowMajor_val_three, Shape.rowMajor_val_two]
    show (q.val / 128 * 128 + q.val % 128) * 5120 + j.val = q.val * 5120 + j.val
    omega)]
  refine (congrArg₂ (· + ·) (dot_apply _ _ _ _ j) (dot_apply _ _ _ _ j)).trans ?_
  refine Eq.trans ?_ (sum_even_odd _)
  refine congrArg₂ (· + ·) (Finset.sum_congr rfl fun k _ => ?_) (Finset.sum_congr rfl fun k _ => ?_)
  · exact congrArg₂ (· * ·) (slice_apply x 0 (by decide) _ _ _ k) (h0 k j)
  · exact congrArg₂ (· * ·) (slice_apply x 1 (by decide) _ _ _ k) (h1 k j)

/-- The rows of `x` with 64 zeros appended, cut into tiles of 128 columns. -/
theorem layout_eq (x : FVec Ideal S12x128x2880 .bf16) :
    (transpose S23x1536x128 [1, 0, 2] (shapeCast S1536x23x128 (concatenate S1536x2944 1 [⟨S1536x2880, shapeCast S1536x2880 x shapeCasts_S12x128x2880_S1536x2880⟩,
        ⟨S1536x64, broadcastInDim S1536x64 ![] bcast_S_S1536x64 (constant S_ .bf16 0x0000#16)⟩] concatenates_S1536x2880_S1536x64_S1536x2944_d1)
      shapeCasts_S1536x2944_S1536x23x128) transposes_S1536x23x128_S23x1536x128_1_0_2 : FVec Ideal S23x1536x128 .bf16)
    = layout x := by
  funext (y : S23x1536x128.Idx)
  obtain ⟨k, q, s, rfl⟩ : ∃ (k : Fin 23) (q : Fin 1536) (s : Fin 128), y = ix3 k q s := ⟨y 0, y 1, y 2, by funext a; fin_cases a <;> rfl⟩
  have hk := k.isLt
  have hq := q.isLt
  have hs := s.isLt
  rw [transpose_apply (s := S1536x23x128) (t := S23x1536x128) (perm := [1, 0, 2]) (k := ix3 q k s)
    (hk := fun a => match a with | 0 => rfl | 1 => rfl | 2 => rfl)]
  rw [shapeCast_apply (k := ix2 q (⟨k.val * 128 + s.val, by omega⟩ : Fin 2944)) (hk := by
    rw [Shape.rowMajor_val_three, Shape.rowMajor_val_two]
    show q.val * 2944 + (k.val * 128 + s.val) = (q.val * 23 + k.val) * 128 + s.val
    omega)]
  by_cases h : k.val * 128 + s.val < 2880
  · rw [concatenate_pair_apply_left (i := ix2 q (⟨k.val * 128 + s.val, h⟩ : Fin 2880)) (t := S1536x2944) (s₁ := S1536x2880) (s₂ := S1536x64) (a := 1) (hr := rfl)
      (hi := fun b => match b with | 0 => rfl | 1 => rfl)]
    rw [shapeCast_apply (k := ix3 (⟨q.val / 128, by omega⟩ : Fin 12) (⟨q.val % 128, Nat.mod_lt _ (by decide)⟩ : Fin 128) (⟨k.val * 128 + s.val, h⟩ : Fin 2880)) (hk := by
      rw [Shape.rowMajor_val_three, Shape.rowMajor_val_two]
      show (q.val / 128 * 128 + q.val % 128) * 2880 + (k.val * 128 + s.val) = q.val * 2880 + (k.val * 128 + s.val)
      omega)]
    unfold layout
    rw [dif_pos (show ((ix3 k q s : S23x1536x128.Idx) 0).val * 128 + ((ix3 k q s : S23x1536x128.Idx) 2).val < 2880 from h)]
  · rw [concatenate_pair_apply_right (i := ix2 q (⟨k.val * 128 + s.val - 2880, by omega⟩ : Fin 64)) (t := S1536x2944) (s₁ := S1536x2880) (s₂ := S1536x64) (a := 1) (hr := rfl) (hr₂ := rfl)
      (hi := by exact fun b hb => match b with | 0 => rfl | 1 => absurd rfl hb) (ha := by show k.val * 128 + s.val - 2880 + 2880 = k.val * 128 + s.val; omega)]
    unfold layout
    rw [dif_neg (show ¬ (((ix3 k q s : S23x1536x128.Idx) 0).val * 128 + ((ix3 k q s : S23x1536x128.Idx) 2).val < 2880) from h)]
    rfl

/-- The reference runs to the end with the target and the layout in its results and its arguments as they were. -/
theorem value_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v192) = target (m ((c.tc : Thread nD τ).loc main_arg0)) (m ((c.tc : Thread nD τ).loc main_arg1)) (m ((c.tc : Thread nD τ).loc main_arg2))
      ∧ r.2.mem ((c.tc : Thread nD τ).loc main_v194) = layout (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (Cert.ReferenceIdeal.Value.run m ρ)
  obtain ⟨h, hl, h'⟩ := h c
  refine ⟨h.trans ?_, hl.trans (layout_eq _), h'⟩
  refine result_eq _ _ _ _ _ (fun k j => ?_) (fun k j => ?_)
  · exact weights_apply _ _ _ 0 (by decide) (v6_apply (launchContents m c)) k j
  · exact weights_apply _ _ _ 1 (by decide) (v95_apply (launchContents m c)) k j

end Cert.Proof.R

end
-- ==== Proof.Claims.lean ====
/-
  The claims. The idealized program's text is the kernel's own, read at the extended reals, so the run proved of the
  one for any float values is the run of the other.
-/
module

public import proofs.«01_k».proof.Defs
public import proofs.«01_k».proof.Proof.Frame
public import proofs.«01_k».proof.Proof.Array
public import proofs.«01_k».proof.Proof.RefSide
public import proofs.«01_k».proof.Proof.Gen.KernelIdeal
public import proofs.«01_k».proof.Proof.Gen.ReferenceIdeal
public import proofs.«01_k».proof.Proof.Gen.ReferenceIdeal.Run

@[expose] public section

noncomputable section

namespace Cert.Proof

open Idealize.ShloMosaic Idealize.ShloMosaic.TcCoe Idealize.ShloMosaic.Tactic
open Idealize.SL.Sem

theorem frame_K : @Cert.quiescent_Kernel Cert.Kernel.Gen.facts := fun m g _ => Cert.Proof.K.frame_run m g

theorem frame_same : @Cert.quiescent_KernelIdeal Cert.KernelIdeal.Gen.facts =
    ∀ (m : (ℓ : Loc Cert.Kernel.nD Cert.Kernel.τ Cert.Kernel.sig) → Buf (Elt Ideal) ℓ) (g : Dev Cert.Kernel.nD → PrngReg), True →
    θ_run (Cert.Kernel.defs (F := Ideal)) (onTc (τ := Cert.Kernel.τ) (Cert.Kernel.main (F := Ideal))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0) := by sl_kernel_rfl

theorem frame_KI : @Cert.quiescent_KernelIdeal Cert.KernelIdeal.Gen.facts :=
  frame_same.mpr fun m g _ => Cert.Proof.K.frame_run m g

theorem frame_RI : @Cert.quiescent_ReferenceIdeal Cert.ReferenceIdeal.Gen.facts := fun m g _ =>
  (θ_run _ _ _).mono (fun r h => ⟨fun c => (h c).2.2, sem_eq_zero_of_no_sems (by decide) r.2⟩) (Cert.ReferenceIdeal.Value.run m g)

/-- The value claim in the kernel's own names. -/
theorem value_same : @Cert.algebraic_KernelIdeal_ReferenceIdeal Cert.KernelIdeal.Gen.facts Cert.ReferenceIdeal.Gen.facts =
    ∀ (m : (ℓ : Loc Cert.Kernel.nD Cert.Kernel.τ Cert.Kernel.sig) → Buf (Elt Ideal) ℓ) (g : Dev Cert.Kernel.nD → PrngReg)
      (m' : (ℓ : Loc Cert.ReferenceIdeal.nD Cert.ReferenceIdeal.τ Cert.ReferenceIdeal.sig) → Buf (Elt Ideal) ℓ) (g' : Dev Cert.ReferenceIdeal.nD → PrngReg), True →
      (∀ c : Dev Cert.Kernel.nD,
        m' ((c.tc : Thread Cert.ReferenceIdeal.nD Cert.ReferenceIdeal.τ).loc Cert.ReferenceIdeal.main_arg0) = m ((c.tc : Thread Cert.Kernel.nD Cert.Kernel.τ).loc Cert.Kernel.main_arg0)
        ∧ m' ((c.tc : Thread Cert.ReferenceIdeal.nD Cert.ReferenceIdeal.τ).loc Cert.ReferenceIdeal.main_arg1) = m ((c.tc : Thread Cert.Kernel.nD Cert.Kernel.τ).loc Cert.Kernel.main_arg1)
        ∧ m' ((c.tc : Thread Cert.ReferenceIdeal.nD Cert.ReferenceIdeal.τ).loc Cert.ReferenceIdeal.main_arg2) = m ((c.tc : Thread Cert.Kernel.nD Cert.Kernel.τ).loc Cert.Kernel.main_arg2)) →
      ∃ (v0 : (c : Dev Cert.Kernel.nD) → Buf (Elt Ideal) ((c.tc : Thread Cert.Kernel.nD Cert.Kernel.τ).loc Cert.Kernel.main_v2_0))
        (v1 : (c : Dev Cert.Kernel.nD) → Buf (Elt Ideal) ((c.tc : Thread Cert.Kernel.nD Cert.Kernel.τ).loc Cert.Kernel.main_v2_1)),
        θ_run (Cert.Kernel.defs (F := Ideal)) (onTc (τ := Cert.Kernel.τ) (Cert.Kernel.main (F := Ideal))) ⟨m, fun _ => 0, g⟩ (fun r => ∀ c : Dev Cert.Kernel.nD,
            r.2.mem ((c.tc : Thread Cert.Kernel.nD Cert.Kernel.τ).loc Cert.Kernel.main_v2_0) = v0 c
            ∧ r.2.mem ((c.tc : Thread Cert.Kernel.nD Cert.Kernel.τ).loc Cert.Kernel.main_v2_1) = v1 c
            ∧ r.2.mem ((c.tc : Thread Cert.Kernel.nD Cert.Kernel.τ).loc Cert.Kernel.main_arg0) = m ((c.tc : Thread Cert.Kernel.nD Cert.Kernel.τ).loc Cert.Kernel.main_arg0)
            ∧ r.2.mem ((c.tc : Thread Cert.Kernel.nD Cert.Kernel.τ).loc Cert.Kernel.main_arg1) = m ((c.tc : Thread Cert.Kernel.nD Cert.Kernel.τ).loc Cert.Kernel.main_arg1)
            ∧ r.2.mem ((c.tc : Thread Cert.Kernel.nD Cert.Kernel.τ).loc Cert.Kernel.main_arg2) = m ((c.tc : Thread Cert.Kernel.nD Cert.Kernel.τ).loc Cert.Kernel.main_arg2))
        ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
            r.2.mem ((c.tc : Thread Cert.ReferenceIdeal.nD Cert.ReferenceIdeal.τ).loc Cert.ReferenceIdeal.main_v192) = v0 c
            ∧ r.2.mem ((c.tc : Thread Cert.ReferenceIdeal.nD Cert.ReferenceIdeal.τ).loc Cert.ReferenceIdeal.main_v194) = v1 c
            ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
            ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
            ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)) := by sl_kernel_rfl

theorem value_KI : @Cert.algebraic_KernelIdeal_ReferenceIdeal Cert.KernelIdeal.Gen.facts Cert.ReferenceIdeal.Gen.facts :=
  value_same.mpr fun m g m' g' _ hm => ⟨_, _, Cert.Proof.K.value_run m g,
    (θ_run _ _ _).mono (fun _ h c => ⟨(h c).1.trans (by rw [(hm c).1, (hm c).2.1, (hm c).2.2]), (h c).2.1.trans (by rw [(hm c).1]), (h c).2.2⟩) (Cert.Proof.R.value_run m' g')⟩

end Cert.Proof

end
-- ==== Proof.SparseParts.lean ====
/-
  The body of the sparse call at one grid point, cut in two: the conditional that copies the tiles of `x` into the scratch
  at the first point, and the products; and the run of the products.
-/
module

public import proofs.«01_k».proof.Proof.Gen.Sparse.Frame
public import proofs.«01_k».proof.Proof.Gen.Sparse.Skeleton

@[expose] public section

noncomputable section

namespace Cert.Proof.S

open Cert.Sparse Cert.Sparse.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The contents of memref `M`'s buffer on core `c`, and that buffer held whole, at a share. -/
abbrev Bf (c : Dev nD) {sp : Space} {S : Shape} {e : EltTy} (M : Memref sig .tc sp S e) : Type := Buf (Elt F) (M.view.loc (c : Thread nD τ))
abbrev ptq (c : Dev nD) {sp : Space} {S : Shape} {e : EltTy} (q : PosShare TreeShare) (M : Memref sig .tc sp S e) (f : Bf (F := F) c M) : sProp 𝕄 :=
  M.view.loc (c : Thread nD τ) ↦{q} f

section Body

variable (i : grid0.Coords)
  (M1 : Memref sig .tc .hbm S23x1536x128 .bf16) (h1 : M1.IsWhole) (M2 : Memref sig .tc .vmem S32x23x8x128 .i32) (h2 : M2.IsWhole)
  (M3 : Memref sig .tc .vmem S1536x512 .f32) (h3 : M3.IsWhole) (M4 : Memref sig .tc .vmem S1536x512 .bf16) (h4 : M4.IsWhole)
  (M5 : Memref sig .tc .vmem S1536x512 .f32) (h5 : M5.IsWhole) (M6 : Memref sig .tc .vmem S23x1536x128 .bf16) (h6 : M6.IsWhole)
  (M7 : DmaSems sig S_)

/-- The conditional: at the first point the tiles of `x` are copied into the scratch. -/
def fillProg : Prog (TpuEff nD τ sig (Elt F) Λ₀ .tc) PUnit :=
  if Scalar.cmpi .ne (Scalar.extui (Scalar.cmpi .eq (BitVec.ofNat 32 (i 0).val) 0#32) : BitVec 32) 0#32 = 1#1 then do
    Prog.lift (.enqueueDma M1 (.here M6) (.dma M7.sem) h1.wordExact h6.wordExact ⟨Or.inl rfl, trivial⟩)
    Prog.lift (.waitDma2 M7.sem M1 M6 h1.wordExact h6.wordExact)
    pure ⟨⟩
  else pure ⟨⟩

/-- What the first part does after the conditional. -/
def tail1 : Prog (TpuEff nD τ sig (Elt F) Λ₀ .tc) (Σ' (k0_mxu1 : Mxu F) (v5_r0 : FVec F S16x128 .bf16) (v8_r0 : FVec F S16x128 .bf16) (v11_r0 : FVec F S16x128 .bf16) (v14_r0 : FVec F S16x128 .bf16) (v17_r0 : FVec F S16x128 .bf16) (v20_r0 : FVec F S16x128 .bf16), FVec F S16x128 .bf16) := do
  let v3_r0 : Vec F S1x1x8x128 .i32 ← Prog.lift (.load M2 (Rect.unit (s := S32x23x8x128) ![0, 0, 0, 0] S1x1x8x128.size inb_S32x23x8x128_S1x1x8x128_0_0_0_0).toLoadRect (View.loadsAt_vmem h_S1x1x8x128))
  let v6_r0 : Vec F S1x1x8x128 .i32 ← Prog.lift (.load M2 (Rect.unit (s := S32x23x8x128) ![1, 0, 0, 0] S1x1x8x128.size inb_S32x23x8x128_S1x1x8x128_1_0_0_0).toLoadRect (View.loadsAt_vmem h_S1x1x8x128))
  let v9_r0 : Vec F S1x1x8x128 .i32 ← Prog.lift (.load M2 (Rect.unit (s := S32x23x8x128) ![2, 0, 0, 0] S1x1x8x128.size inb_S32x23x8x128_S1x1x8x128_2_0_0_0).toLoadRect (View.loadsAt_vmem h_S1x1x8x128))
  let v12_r0 : Vec F S1x1x8x128 .i32 ← Prog.lift (.load M2 (Rect.unit (s := S32x23x8x128) ![3, 0, 0, 0] S1x1x8x128.size inb_S32x23x8x128_S1x1x8x128_3_0_0_0).toLoadRect (View.loadsAt_vmem h_S1x1x8x128))
  let v15_r0 : Vec F S1x1x8x128 .i32 ← Prog.lift (.load M2 (Rect.unit (s := S32x23x8x128) ![4, 0, 0, 0] S1x1x8x128.size inb_S32x23x8x128_S1x1x8x128_4_0_0_0).toLoadRect (View.loadsAt_vmem h_S1x1x8x128))
  let v18_r0 : Vec F S1x1x8x128 .i32 ← Prog.lift (.load M2 (Rect.unit (s := S32x23x8x128) ![5, 0, 0, 0] S1x1x8x128.size inb_S32x23x8x128_S1x1x8x128_5_0_0_0).toLoadRect (View.loadsAt_vmem h_S1x1x8x128))
  let v21_r0 : Vec F S1x1x8x128 .i32 ← Prog.lift (.load M2 (Rect.unit (s := S32x23x8x128) ![6, 0, 0, 0] S1x1x8x128.size inb_S32x23x8x128_S1x1x8x128_6_0_0_0).toLoadRect (View.loadsAt_vmem h_S1x1x8x128))
  pure ⟨Mxu.init, k0_pay3 v3_r0, k0_pay4 v6_r0, k0_pay5 v9_r0, k0_pay6 v12_r0, k0_pay7 v15_r0, k0_pay8 v18_r0, k0_pay9 v21_r0⟩

theorem part1_split : k0_part1 (F := F) i M1 h1 M2 h2 M3 h3 M4 h4 M5 h5 M6 h6 M7
    = fillProg i M1 h1 M6 h6 M7 >>= fun _ => tail1 M2 := by
  rw [k0_part1_eq_skeleton]; unfold k0_part1_skel fillProg tail1
  by_cases hc : Scalar.cmpi .ne (Scalar.extui (Scalar.cmpi .eq (BitVec.ofNat 32 (i 0).val) 0#32) : BitVec 32) 0#32 = 1#1
  · simp only [dif_pos hc, if_pos hc, bind_assoc, pure_bind]
  · simp only [dif_neg hc, if_neg hc, bind_assoc, pure_bind]

/-- What the body leaves in the two results' blocks, WITH the proof that it does: given what the conditional does with all
    the rest (`R` before it, the scratch of `x` tiles readable at `X` after), the body runs from the two input blocks,
    reading them and the scratch alone. -/
noncomputable def lumpRun (c : Dev nD) (f2 : Bf (F := F) c M2) (f3 : Bf (F := F) c M3) (X : Bf (F := F) c M6) :
    { W : Bf (F := F) c M4 × Bf (F := F) c M5 //
      ∀ (f4 : Bf (F := F) c M4) (f5 : Bf (F := F) c M5) (R R' : sProp 𝕄) (E : Set ℕ) (Q : PUnit → sProp 𝕄)
        (_ : R ⊢ wp frame (wpE (defs₀ (F := F)) Variants.none c none) E (fillProg i M1 h1 M6 h6 M7)
          (fun _ => iprop(ptq c fullShare M6 X ∗ R'))),
        iprop(R ∗ ptq c fullShare M2 f2 ∗ ptq c fullShare M3 f3 ∗ ptq c fullShare M4 f4 ∗ ptq c fullShare M5 f5
          ∗ (iprop(ptq c fullShare M6 X ∗ R' ∗ ptq c fullShare M2 f2 ∗ ptq c fullShare M3 f3 ∗ ptq c fullShare M4 W.1
              ∗ ptq c fullShare M5 W.2) -∗ Q ⟨⟩))
        ⊢ wp frame (wpE (defs₀ (F := F)) Variants.none c none) E
            (cc0_sparse_matmul i M1 h1 M2 h2 M3 h3 M4 h4 M5 h5 M6 h6 M7) Q } := by
  refine ⟨(?_, ?_), fun f4 f5 R R' E Q hfill => ?run⟩
  case run =>
    rw [cc0_sparse_matmul_eq_skeleton]; unfold cc0_sparse_matmul_skel
    rw [k0_part151_eq_skeleton]; unfold k0_part151_skel
    rw [part1_split]
    simp only [Prog.bind_assoc]
    iintro ⟨HR, H2, H3, H4, H5, Hk⟩
    sl_exec_parts!
    sl_step
    iapply Hk
    isplitl [HfillProg_0]; · iexact HfillProg_0
    isplitl [HfillProg_1]; · iexact HfillProg_1
    isplitl [H2]; · iexact H2
    isplitl [H3]; · iexact H3
    isplitl [H4]; · iexact H4
    iexact H5

end Body

end Cert.Proof.S

end
-- ==== Proof.SparseFrame.lean ====
/-
  The run of the sparse call: it terminates, nothing faults, its arguments end unchanged, every counter ends at zero, and
  each block of its two results is what the body leaves at that block's grid point.
-/
module

public import proofs.«01_k».proof.Proof.SparseParts
public import Idealize.ShloMosaic.Lib.WholeRead
public import Mathlib.Tactic.IntervalCases

@[expose] public section

set_option sl_exec.dmaWindow true

noncomputable section

namespace Cert.Proof.S

open Cert.Sparse Cert.Sparse.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (Pipeline.UD sig nD τ) ℕ

/-- The array of tiles of `x`, and the scratch they are copied into. -/
abbrev mX : Memref sig .tc .hbm S23x1536x128 .bf16 := Memref.whole main_arg0
abbrev mT : Memref sig .tc .vmem S23x1536x128 .bf16 := Memref.whole cc0_scratch0

/-- The scratch after the copy. -/
def copied (c : Dev nD) (fx : Bf (F := F) c mX) : Bf (F := F) c mT :=
  (Memref.isWhole_whole cc0_scratch0).unread (mX.view.read (Elt F) fx)

theorem write_copied (c : Dev nD) (fx : Bf (F := F) c mX) (f : Bf (F := F) c mT) :
    View.write (Elt F) mT.view f (ReadAs.same.apply (View.read (Elt F) mX.view fx)) Finset.univ = copied c fx :=
  (Memref.isWhole_whole cc0_scratch0).eq_unread (View.read_write_univ _ _)

/-! ## The conditional -/

section Cond

variable (i : grid0.Coords)

/-- What the body holds beside its blocks and the scratch, with what the core owes. -/
def held (c : Dev nD) (fx : Bf (F := F) c mX) : sProp 𝕄 :=
  iprop(ptq c fullShare mX fx ∗ semVal ((c : Thread nD τ), SemLoc.dma 8) 0 ∗ (∃ W, owes (c : Thread nD τ) 0 W))

theorem fill_first (hi : (i 0).val = 0) (c : Dev nD) (fx : Bf (F := F) c mX) :
    iprop((∃ f, ptq c fullShare mT f) ∗ held c fx) ⊢ wp frame (wpE (defs₀ (F := F)) Variants.none c none) Set.univ
      (fillProg i mX (Memref.isWhole_whole _) mT (Memref.isWhole_whole _) cc0_scratch1) (fun _ => iprop(ptq c fullShare mT (copied c fx) ∗ held c fx)) := by
  unfold fillProg held
  rw [if_pos (by rw [hi]; decide)]
  iintro ⟨⟨%f, HT⟩, HX, Hs, ⟨%W, HW⟩⟩
  sl_exec
  sl_step
  rw [← write_copied c fx f]
  isplitl [HT]; · iexact HT
  isplitl [HX]; · iexact HX
  isplitl [Hs]; · iexact Hs
  iexists _; iexact HW

theorem fill_later (hi : 0 < (i 0).val) (c : Dev nD) (R : sProp 𝕄) :
    R ⊢ wp frame (wpE (defs₀ (F := F)) Variants.none c none) Set.univ
      (fillProg i mX (Memref.isWhole_whole _) mT (Memref.isWhole_whole _) cc0_scratch1) (fun _ => R) := by
  unfold fillProg
  have hi' : (i 0).val < 10 := (i 0).isLt
  rw [if_neg (by generalize (i 0).val = n at hi hi'; interval_cases n <;> decide)]
  iintro HR
  sl_step
  iexact HR

end Cond

section Body

variable (i : grid0.Coords) (M2 : Memref sig .tc .vmem S32x23x8x128 .i32) (h2 : M2.IsWhole)
  (M3 : Memref sig .tc .vmem S1536x512 .f32) (h3 : M3.IsWhole) (M4 : Memref sig .tc .vmem S1536x512 .bf16) (h4 : M4.IsWhole)
  (M5 : Memref sig .tc .vmem S1536x512 .f32) (h5 : M5.IsWhole)

/-- What the body leaves in the results' blocks, from the two input blocks and the scratch of tiles. -/
def outBlk (c : Dev nD) (d2 : S32x23x8x128.Idx → Elt F .i32) (d3 : S1536x512.Idx → Elt F .f32) (X : Bf (F := F) c mT) : Bf (F := F) c M4 × Bf (F := F) c M5 :=
  (lumpRun i mX (Memref.isWhole_whole _) M2 h2 M3 h3 M4 h4 M5 h5 mT (Memref.isWhole_whole _) cc0_scratch1 c (h2.unread d2) (h3.unread d3) X).1
def outY (c : Dev nD) (d2 : S32x23x8x128.Idx → Elt F .i32) (d3 : S1536x512.Idx → Elt F .f32) (X : Bf (F := F) c mT) : S1536x512.Idx → Elt F .bf16 :=
  M4.view.read (Elt F) (outBlk i M2 h2 M3 h3 M4 h4 M5 h5 c d2 d3 X).1
def outS (c : Dev nD) (d2 : S32x23x8x128.Idx → Elt F .i32) (d3 : S1536x512.Idx → Elt F .f32) (X : Bf (F := F) c mT) : S1536x512.Idx → Elt F .f32 :=
  M5.view.read (Elt F) (outBlk i M2 h2 M3 h3 M4 h4 M5 h5 c d2 d3 X).2

theorem body_at (c : Dev nD) (fx : Bf (F := F) c mX) (d2 : S32x23x8x128.Idx → Elt F .i32) (d3 : S1536x512.Idx → Elt F .f32) (P : sProp 𝕄)
    (hfill : P ⊢ wp frame (wpE (defs₀ (F := F)) Variants.none c none) Set.univ
      (fillProg i mX (Memref.isWhole_whole _) mT (Memref.isWhole_whole _) cc0_scratch1) (fun _ => iprop(ptq c fullShare mT (copied c fx) ∗ held c fx))) :
    iprop(P ∗ owns (c : Thread nD τ) M2 fullShare d2 ∗ owns (c : Thread nD τ) M3 fullShare d3 ∗ (∃ d, owns (c : Thread nD τ) M4 fullShare d)
      ∗ (∃ d, owns (c : Thread nD τ) M5 fullShare d))
    ⊢ wp frame (wpE (defs₀ (F := F)) Variants.none c none) Set.univ
      (cc0_sparse_matmul i mX (Memref.isWhole_whole _) M2 h2 M3 h3 M4 h4 M5 h5 mT (Memref.isWhole_whole _) cc0_scratch1)
      (fun _ => iprop(iprop(ptq c fullShare mT (copied c fx) ∗ held c fx) ∗ owns (c : Thread nD τ) M2 fullShare d2 ∗ owns (c : Thread nD τ) M3 fullShare d3
        ∗ owns (c : Thread nD τ) M4 fullShare (outY i M2 h2 M3 h3 M4 h4 M5 h5 c d2 d3 (copied c fx))
        ∗ owns (c : Thread nD τ) M5 fullShare (outS i M2 h2 M3 h3 M4 h4 M5 h5 c d2 d3 (copied c fx)))) := by
  unfold owns
  rw [h2.set_eq_univ, h3.set_eq_univ, h4.set_eq_univ, h5.set_eq_univ]
  iintro ⟨HP, ⟨%f2, %e2, H2⟩, ⟨%f3, %e3, H3⟩, ⟨%d4, %f4, -, H4⟩, ⟨%d5, %f5, -, H5⟩⟩
  obtain rfl := h2.eq_unread e2
  obtain rfl := h3.eq_unread e3
  iapply (lumpRun i mX (Memref.isWhole_whole _) M2 h2 M3 h3 M4 h4 M5 h5 mT (Memref.isWhole_whole _) cc0_scratch1 c (h2.unread d2) (h3.unread d3)
    (copied c fx)).2 f4 f5 P (held c fx) Set.univ _ hfill
  isplitl [HP]; · iexact HP
  isplitl [H2]; · iexact H2
  isplitl [H3]; · iexact H3
  isplitl [H4]; · iexact H4
  isplitl [H5]; · iexact H5
  iintro ⟨HT, HP, H2, H3, H4, H5⟩
  isplitl [HT HP]
  · isplitl [HT]; · iexact HT
    iexact HP
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; rfl
  iexists _; isplitr; swap; · iexact H5
  ipureintro; rfl

end Body

variable (m : (ℓ : Loc nD τ sig) → Buf (Elt F) ℓ) (ρ : Dev nD → PrngReg)

/-! ## The buffers and counters the body uses beside its blocks -/

/-- The array the body's copy reads, and its counter. -/
def H0 : Finset (Ref sig .tc) := {main_arg0}
abbrev osem0 : Fin 1 → SemLoc sig := fun j => (![SemLoc.dma 8] : Fin 1 → SemLoc sig) j
theorem ownSemFacts0 : Pipeline.OwnSemFacts spec0 osem0 := by decide
theorem H0_sub : H0 ⊆ Pipeline.restRefs sig spec0 := by decide

theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 8) 0) := by
  rw [Pipeline.ownSems0_eq_of_list c osem0 [0] (by decide) (by decide)]; rfl

theorem PhiD0_eq (c : Dev nD) :
    (Pipeline.ΦD osem0 spec0 H0 (V m) c : sProp 𝕄)
      = iprop((∃ f, ptq (F := F) c fullShare mT f) ∗ (∃ r, prngReg c r) ∗ semVal ((c : Thread nD τ), SemLoc.dma 8) 0
          ∗ ptq (F := F) c fullShare mX (V m c main_arg0)) := by
  rw [Pipeline.ΦD_eq, scopedRest0_eq, ownSems00_eq]
  rw [BI.bigSep_eq_bigSepL_of_eq [main_arg0] (by decide) (by decide)]; rfl

/-- The scratch before point `n`: anything at first, the tiles of `x` from the second point on. -/
def scratch (c : Dev nD) (n : ℕ) : sProp 𝕄 :=
  if n = 0 then iprop(∃ f, ptq c fullShare mT f) else ptq c fullShare mT (copied c (V m c main_arg0))

/-- What the body holds beside its blocks before point `n`, and after the last. -/
def between (c : Dev nD) (n : ℕ) : sProp 𝕄 :=
  iprop(scratch m c n ∗ ptq c fullShare mX (V m c main_arg0) ∗ semVal ((c : Thread nD τ), SemLoc.dma 8) 0)

theorem between_of_PhiD (c : Dev nD) : (Pipeline.ΦD osem0 spec0 H0 (V m) c : sProp 𝕄) ⊢ iprop((∃ r, prngReg c r) ∗ between m c 0) := by
  rw [PhiD0_eq]; unfold between scratch
  rw [if_pos rfl]
  iintro ⟨HT, Hg, Hs, HX⟩
  isplitl [Hg]; · iexact Hg
  isplitl [HT]; · iexact HT
  isplitl [HX]; · iexact HX
  iexact Hs

theorem PhiD_of_between (c : Dev nD) {n : ℕ} (hn : n ≠ 0) : iprop((∃ r, prngReg c r) ∗ between m c n) ⊢ (Pipeline.ΦD osem0 spec0 H0 (V m) c : sProp 𝕄) := by
  rw [PhiD0_eq]; unfold between scratch
  rw [if_neg hn]
  iintro ⟨Hg, HT, HX, Hs⟩
  isplitl [HT]; · iexists _; iexact HT
  isplitl [Hg]; · iexact Hg
  isplitl [Hs]; · iexact Hs
  iexact HX

/-! ## The proof data and the body obligation -/

abbrev ms0_0 (t : Fin cfg0.N) : Memref sig .tc .vmem S32x23x8x128 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1536x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1536x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1536x512 .f32 := win0_3.stage (cfg0.slots t 3)
abbrev hs0_3 (t : Fin cfg0.N) : (ms0_3 t).IsWhole := hstage0_3 ((cfg0.slots t 3).cast nbuf0_3)

/-- The results' blocks at a point: what the body leaves there. -/
def outAtY (c : Dev nD) (t : Fin cfg0.N) : S1536x512.Idx → Elt F .bf16 :=
  outY (grid0.coords t) (ms0_0 t) (hs0_0 t) (ms0_1 t) (hs0_1 t) (ms0_2 t) (hs0_2 t) (ms0_3 t) (hs0_3 t) c (iblk m c 0 t) (iblk m c 1 t) (copied c (V m c main_arg0))
def outAtS (c : Dev nD) (t : Fin cfg0.N) : S1536x512.Idx → Elt F .f32 :=
  outS (grid0.coords t) (ms0_0 t) (hs0_0 t) (ms0_1 t) (hs0_1 t) (ms0_2 t) (hs0_2 t) (ms0_3 t) (hs0_3 t) c (iblk m c 0 t) (iblk m c 1 t) (copied c (V m c main_arg0))

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => outAtY m c t
    | ⟨3, _⟩ => outAtS m c t
  Φ t := iprop((∃ r, prngReg c r) ∗ between m c t.val)
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outAtY m c t := by dsimp only [dats]
theorem after0_3 (c : Dev nD) (t : Fin cfg0.N) : (dats m 0 c).after 3 t = outAtS m c t := by dsimp only [dats]

theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

theorem coords_val : ∀ t : Fin cfg0.N, (grid0.coords t 0).val = t.val := by decide

theorem fill_at (c : Dev nD) (t : Fin cfg0.N) :
    iprop(scratch m c t.val ∗ held c (V m c main_arg0)) ⊢ wp frame (wpE (defs₀ (F := F)) Variants.none c none) Set.univ
      (fillProg (grid0.coords t) mX (Memref.isWhole_whole _) mT (Memref.isWhole_whole _) cc0_scratch1)
      (fun _ => iprop(ptq c fullShare mT (copied c (V m c main_arg0)) ∗ held c (V m c main_arg0))) := by
  unfold scratch
  by_cases h : t.val = 0
  · rw [if_pos h]
    exact fill_first _ ((coords_val t).trans h) c _
  · rw [if_neg h]
    exact fill_later _ (by rw [coords_val]; omega) c _

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [after0_0, after0_1, after0_2, after0_3]
  rw [show (dats m 0 c).Φ t.succ = iprop((∃ r, prngReg c r) ∗ between m c (t.val + 1)) from rfl,
    show (dats m 0 c).Φ t.castSucc = iprop((∃ r, prngReg c r) ∗ between m c t.val) from rfl]
  unfold Dat.owesAt Pipeline.owesWithin
  rw [show (dats m 0 c).owed t.castSucc = 0 from rfl, show (dats m 0 c).owed t.succ = 0 from rfl]
  unfold outAtY outAtS between
  rw [show scratch m c (t.val + 1) = ptq c fullShare mT (copied c (V m c main_arg0)) from if_neg (Nat.succ_ne_zero _)]
  iintro ⟨⟨Hg, HT, HX, Hs⟩, ⟨%W, -, HW⟩, ⟨%d0, H0⟩, ⟨%d1, H1⟩, ⟨%d2, H2⟩, ⟨%d3, H3⟩⟩
  iapply (wp_wand_r _ _ _)
  isplitr [Hg]
  · iapply body_at (grid0.coords t) (ms0_0 t) (hs0_0 t) (ms0_1 t) (hs0_1 t) (ms0_2 t) (hs0_2 t) (ms0_3 t) (hs0_3 t) c (V m c main_arg0)
      (iblk m c 0 t) (iblk m c 1 t) _ (fill_at m c t)
    unfold held
    isplitl [HT HX Hs HW]
    · isplitl [HT]; · iexact HT
      isplitl [HX]; · iexact HX
      isplitl [Hs]; · iexact Hs
      iexists W; iexact HW
    isplitl [H0]; · iexact H0
    isplitl [H1]; · iexact H1
    isplitl [H2]; · iexists _; iexact H2
    iexists _; iexact H3
  unfold held
  iintro %_ ⟨⟨HT, HX, Hs, ⟨%W', HW'⟩⟩, H0, H1, H2, H3⟩
  isplitl [Hg HT HX Hs]
  · isplitl [Hg]; · iexact Hg
    isplitl [HT]; · iexact HT
    isplitl [HX]; · iexact HX
    iexact Hs
  isplitl [HW']
  · iexists W'; isplitr; · ipureintro; exact fun _ _ => Or.inl trivial
    iexact HW'
  isplitl [H0]; · iexact H0
  isplitl [H1]; · iexact H1
  isplitl [H2]; · iexact H2
  iexact H3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := fun c => between_of_PhiD m c) (hout := fun c => PhiD_of_between m c (by decide : (10 : ℕ) ≠ 0))
    (hQ' := fun _ h => h)

/-- Every argument ends as launched and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).1 0).trans (((dats m 0 c).arrAt_in 0 rfl _).trans ((A_eq m c 0).trans (V_main_arg1 m c))),
      ((h.1 c).1 1).trans (((dats m 0 c).arrAt_in 1 rfl _).trans ((A_eq m c 1).trans (V_main_arg2 m c)))⟩, h.2⟩) (run_main m ρ)

end Cert.Proof.S

end
-- ==== Proof.Passes.lean ====
/-
  The passes of one grid point through the two matrix units, for any weight tile of each step, any left operand of each
  step and block of rows, and either way of pushing the tile: what the units hold at each step, each of their twelve
  blocks of rows the passes deposited so far, in order, started anew at the first step of the second half of the
  columns; so what each popped block is.
-/
module

public import Idealize.ShloMosaic.Lib.Mxu.Lemmas

@[expose] public section

noncomputable section

namespace Cert.Proof.Mx

open Idealize.ShloMosaic

variable {F : FTy → Type} [FloatOps F]

abbrev S128x256 : Shape := ⟨2, ![128, 256]⟩
abbrev S256x256 : Shape := ⟨2, ![256, 256]⟩

theorem adr_fits (c : ℕ) : Mxu.Fits (c % 6 * 32) 128 := by
  have := Nat.mod_lt c (show 6 > 0 by decide)
  refine ⟨by omega, by decide, by omega⟩

/-- Block `k` of unit `q`'s rows: not live, or live with a value. -/
def Holds (s : Mxu F) (q : Fin 2) (k : ℕ) : Option (FVec F S128x256 .f32) → Prop
  | none => ∀ r : Fin 128, s.live q (Mxu.row (adr_fits k) r) = false
  | some v => (∀ r : Fin 128, s.live q (Mxu.row (adr_fits k) r) = true) ∧ s.read q (k % 6 * 32) (adr_fits k) = v

/-- A pass deposited on what a block holds. -/
def onto (o : Option (FVec F S128x256 .f32)) (p : FVec F S128x256 .f32) : FVec F S128x256 .f32 :=
  match o with
  | none => p
  | some v => addf v p

/-- Two blocks apart. -/
def Apart (q : Fin 2) (k : ℕ) (q' : Fin 2) (k' : ℕ) : Prop := q' ≠ q ∨ k' % 6 ≠ k % 6

variable {s : Mxu F} {q q' : Fin 2} {k k' : ℕ} {o : Option (FVec F S128x256 .f32)}

theorem Apart.rows (h : Apart q k q' k') :
    q' ≠ q ∨ 4 * (k' % 6 * 32) + 128 ≤ 4 * (k % 6 * 32) ∨ 4 * (k % 6 * 32) + 128 ≤ 4 * (k' % 6 * 32) := by
  rcases h with h | h
  · exact Or.inl h
  · right; omega

theorem Apart.row (h : Apart q k q' k') (r : Fin 128) :
    ¬ (q' = q ∧ 4 * (k % 6 * 32) ≤ (Mxu.row (adr_fits k') r).val ∧ (Mxu.row (adr_fits k') r).val < 4 * (k % 6 * 32) + 128) := by
  have hr := r.isLt
  rintro ⟨e, h1, h2⟩
  dsimp only [Mxu.row] at h1 h2
  rcases h.rows with h | h | h
  · exact h e
  · omega
  · omega

theorem holds_congr {s' : Mxu F} (hl : ∀ r : Fin 128, s'.live q (Mxu.row (adr_fits k) r) = s.live q (Mxu.row (adr_fits k) r))
    (hr : s'.read q (k % 6 * 32) (adr_fits k) = s.read q (k % 6 * 32) (adr_fits k)) (h : Holds s q k o) : Holds s' q k o := by
  cases o with
  | none => exact fun r => (hl r).trans (h r)
  | some v => exact ⟨fun r => (hl r).trans (h.1 r), hr.trans h.2⟩

theorem holds_pushed (p r : Fin 2) (tr : Bool) (v : FVec F S256x256 .bf16) (h : Holds s q k o) : Holds (s.pushed p r tr v) q k o :=
  holds_congr (fun _ => by rw [Mxu.live_pushed]) (Mxu.read_pushed ..) h

theorem holds_pop_ne (h : Holds s q' k' o) (ha : Apart q k q' k') : Holds (s.pop q (k % 6 * 32) 128 (adr_fits k)) q' k' o :=
  holds_congr (fun r => by rw [Mxu.live_pop, if_neg (ha.row r)]) (Mxu.read_pop_ne _ _ _ _ _ _ _ ha.rows) h

theorem holds_pop : Holds (s.pop q (k % 6 * 32) 128 (adr_fits k)) q k none := fun r => Mxu.live_pop_row _ _ _ _ r

theorem holds_accBy_ne (t : Mxu.Staged F) (x : FVec F S128x256 .bf16) (h : Holds s q' k' o) (ha : Apart q k q' k') :
    Holds (s.accBy q t (k % 6 * 32) x (adr_fits k)) q' k' o :=
  holds_congr (fun r => by rw [Mxu.live_accBy, if_neg (ha.row r)]) (Mxu.read_accBy_ne _ _ _ _ _ _ _ _ _ ha.rows) h

theorem holds_accBy (t : Mxu.Staged F) (x : FVec F S128x256 .bf16) (h : Holds s q k o) :
    Holds (s.accBy q t (k % 6 * 32) x (adr_fits k)) q k (some (onto o (t.pass x))) := by
  refine ⟨fun r => Mxu.live_accBy_row _ _ _ _ _ _ r, ?_⟩
  cases o with
  | none => exact Mxu.read_accBy_of_not_live _ _ _ _ _ _ h
  | some v => exact (Mxu.read_accBy_of_live _ _ _ _ _ _ h.1).trans (by rw [h.2]; rfl)

theorem holds_accLhs_ne (r : Fin 2) (x : FVec F S128x256 .bf16) (h : Holds s q' k' o) (ha : Apart q k q' k') :
    Holds (s.accLhs q r (k % 6 * 32) x (adr_fits k)) q' k' o :=
  holds_congr (s := s.accBy q (s.staged q r) (k % 6 * 32) x (adr_fits k)) (fun _ => rfl) rfl (holds_accBy_ne _ x h ha)

theorem holds_accLhs (r : Fin 2) (x : FVec F S128x256 .bf16) (t : Mxu.Staged F) (ht : s.reg q r = some t) (h : Holds s q k o) :
    Holds (s.accLhs q r (k % 6 * 32) x (adr_fits k)) q k (some (onto o (t.pass x))) := by
  have e : s.staged q r = t := by rw [Mxu.staged_eq, ht]; rfl
  refine holds_congr (s := s.accBy q t (k % 6 * 32) x (adr_fits k)) (fun _ => rfl) ?_ (holds_accBy t x h)
  rw [Mxu.read_accLhs_eq_accBy, e]

section Body

variable (tr : Bool) (W : ℕ → FVec F S256x256 .bf16) (A : ℕ → ℕ → FVec F S128x256 .bf16)

/-- The staging register of step `n`. -/
def regOf (n : ℕ) : Fin 2 := ⟨n % 2, Nat.mod_lt n (by decide)⟩

def push (s : Mxu F) (n : ℕ) : Mxu F :=
  (s.pushed 0 (regOf n) tr (W n)).pushed 1 (regOf n) tr (W n)

/-- Both units' rows of chunk `k` popped. -/
def pops (s : Mxu F) (k : ℕ) : Mxu F := (s.pop 0 (k % 6 * 32) 128 (adr_fits k)).pop 1 (k % 6 * 32) 128 (adr_fits k)

def accs (s : Mxu F) (n k : ℕ) : Mxu F :=
  if k = 0 then
    (s.accLhs 0 (regOf n) (k % 6 * 32) (A n k) (adr_fits k)).accLhs 1 (regOf n) (k % 6 * 32) (A n (6 + k)) (adr_fits k)
  else
    (s.accBy 0 ⟨.bf16, tr, W n⟩ (k % 6 * 32) (A n k) (adr_fits k)).accBy 1 ⟨.bf16, tr, W n⟩
      (k % 6 * 32) (A n (6 + k)) (adr_fits k)

/-- The first `k` chunks of step `n`: at the first step of the second half of the columns each chunk is popped first. -/
def chunks (s : Mxu F) (n : ℕ) : ℕ → Mxu F
  | 0 => s
  | k + 1 => accs tr W A (if n = 12 then pops (chunks s n k) k else chunks s n k) n k

/-- The units after `n` steps. -/
def state : ℕ → Mxu F
  | 0 => Mxu.init
  | n + 1 => chunks tr W A (push tr W (state n) n) n 6

/-- The units after the last step, the first `k` chunks popped. -/
def drained : ℕ → Mxu F
  | 0 => state tr W A 24
  | k + 1 => pops (drained k) k

/-- The units when chunk `k` of column half `t` is about to be popped. -/
def before (t k : ℕ) : Mxu F :=
  if t = 0 then chunks tr W A (push tr W (state tr W A 12) 12) 12 k else drained tr W A k

/-- The pass of step `n` for block `k` of unit `q`. -/
def passAt (n : ℕ) (q : Fin 2) (k : ℕ) : FVec F S128x256 .f32 :=
  (⟨.bf16, tr, W n⟩ : Mxu.Staged F).pass (A n (q.val * 6 + k))

/-- What block `k` of unit `q` holds after `n` steps. -/
def part (q : Fin 2) (k : ℕ) : ℕ → Option (FVec F S128x256 .f32)
  | 0 => none
  | n + 1 => some (onto (if n = 12 then none else part q k n) (passAt tr W A n q k))

theorem apart01 (k k' : ℕ) : Apart 0 k 1 k' := Or.inl (by decide)
theorem apart10 (k k' : ℕ) : Apart 1 k 0 k' := Or.inl (by decide)
theorem apart_ne {k k' : ℕ} (q q' : Fin 2) (hk : k < 6) (hk' : k' < 6) (h : k' ≠ k) : Apart q k q' k' :=
  Or.inr (by rw [Nat.mod_eq_of_lt hk, Nat.mod_eq_of_lt hk']; exact h)

theorem fin2 (q : Fin 2) : q = 0 ∨ q = 1 := by omega

/-- The two accumulates of chunk `k`. -/
theorem holds_accs (n k : ℕ) (hreg : k = 0 → ∀ q, s.reg q (regOf n) = some ⟨.bf16, tr, W n⟩)
    (q : Fin 2) (h : Holds s q k o) :
    Holds (accs tr W A s n k) q k (some (onto o (passAt tr W A n q k))) := by
  unfold accs
  split
  next h0 =>
    rcases fin2 q with rfl | rfl
    · refine holds_accLhs_ne _ _ ?_ (apart10 k k)
      have := holds_accLhs (regOf n) (A n k) _ (hreg h0 0) h
      unfold passAt; rw [Fin.val_zero, Nat.zero_mul, Nat.zero_add]; exact this
    · have h1 := holds_accLhs_ne (regOf n) (A n k) h (apart01 k k)
      have := holds_accLhs (regOf n) (A n (6 + k)) _
        ((Mxu.reg_accLhs_ne s 0 (regOf n) (k % 6 * 32) (A n k) (adr_fits k) 1 (regOf n) (by simp)).trans (hreg h0 1)) h1
      unfold passAt; rw [Fin.val_one, Nat.one_mul]; exact this
  next h0 =>
    rcases fin2 q with rfl | rfl
    · refine holds_accBy_ne _ _ ?_ (apart10 k k)
      unfold passAt; rw [Fin.val_zero, Nat.zero_mul, Nat.zero_add]; exact holds_accBy _ _ h
    · have h1 := holds_accBy_ne ⟨.bf16, tr, W n⟩ (A n k) h (apart01 k k)
      unfold passAt; rw [Fin.val_one, Nat.one_mul]; exact holds_accBy _ _ h1

theorem holds_accs_ne (n k : ℕ) (q' : Fin 2) (hk : k < 6) (hk' : k' < 6) (hne : k' ≠ k) (h : Holds s q' k' o) :
    Holds (accs tr W A s n k) q' k' o := by
  unfold accs
  split
  · exact holds_accLhs_ne _ _ (holds_accLhs_ne _ _ h (apart_ne _ _ hk hk' hne)) (apart_ne _ _ hk hk' hne)
  · exact holds_accBy_ne _ _ (holds_accBy_ne _ _ h (apart_ne _ _ hk hk' hne)) (apart_ne _ _ hk hk' hne)

theorem holds_pops_ne (k : ℕ) (q' : Fin 2) (hk : k < 6) (hk' : k' < 6) (hne : k' ≠ k) (h : Holds s q' k' o) :
    Holds (pops s k) q' k' o :=
  holds_pop_ne (holds_pop_ne h (apart_ne _ _ hk hk' hne)) (apart_ne _ _ hk hk' hne)

theorem holds_pops (k : ℕ) (q : Fin 2) : Holds (pops s k) q k none := by
  rcases fin2 q with rfl | rfl
  · exact holds_pop_ne holds_pop (apart10 k k)
  · exact holds_pop

/-! ## Registers -/

theorem reg_pops (k : ℕ) : (pops s k).reg = s.reg := rfl

theorem reg_accs (n k : ℕ) (q r : Fin 2) : (accs tr W A s n k).reg q r = if k = 0 ∧ r = regOf n then none else s.reg q r := by
  unfold accs
  by_cases h0 : k = 0
  · rw [if_pos h0]
    by_cases hr : r = regOf n
    · rw [if_pos ⟨h0, hr⟩, hr]
      rcases fin2 q with rfl | rfl
      · rw [Mxu.reg_accLhs_ne _ _ _ _ _ _ _ _ (by simp), Mxu.reg_accLhs]
      · rw [Mxu.reg_accLhs]
    · rw [if_neg (fun h => hr h.2), Mxu.reg_accLhs_ne _ _ _ _ _ _ _ _ (fun h => hr h.2), Mxu.reg_accLhs_ne _ _ _ _ _ _ _ _ (fun h => hr h.2)]
  · rw [if_neg h0, if_neg (fun h => h0 h.1)]; rfl

theorem reg_push (n : ℕ) (hs : ∀ q r, s.reg q r = none) (q r : Fin 2) :
    (push tr W s n).reg q r = if r = regOf n then some ⟨.bf16, tr, W n⟩ else none := by
  unfold push
  have h1 : (s.pushed 0 (regOf n) tr (W n)).reg 1 (regOf n) = none :=
    (Mxu.reg_pushed_ne s 0 (regOf n) tr (W n) 1 (regOf n) (by simp)).trans (hs _ _)
  split
  next hr =>
    rw [hr]
    rcases fin2 q with rfl | rfl
    · rw [Mxu.reg_pushed_ne _ _ _ _ _ _ _ (by simp), Mxu.reg_pushed_of_none _ _ _ _ _ (hs _ _)]
    · rw [Mxu.reg_pushed_of_none _ _ _ _ _ h1]
  next hr =>
    rw [Mxu.reg_pushed_ne _ _ _ _ _ _ _ (fun h => hr h.2), Mxu.reg_pushed_ne _ _ _ _ _ _ _ (fun h => hr h.2)]; exact hs _ _

/-! ## Steps -/

/-- The first `j` chunks of step `n`, from pushed registers. -/
theorem chunks_spec (n : ℕ) (old : Fin 2 → ℕ → Option (FVec F S128x256 .f32)) (hs : ∀ q k, k < 6 → Holds s q k (old q k))
    (hreg : ∀ q r, s.reg q r = if r = regOf n then some ⟨.bf16, tr, W n⟩ else none) (j : ℕ) (hj : j ≤ 6) :
    (∀ q k, k < 6 → Holds (chunks tr W A s n j) q k
      (if k < j then some (onto (if n = 12 then none else old q k) (passAt tr W A n q k)) else old q k))
    ∧ (∀ q r, (chunks tr W A s n j).reg q r
      = if r = regOf n ∧ j = 0 then some ⟨.bf16, tr, W n⟩ else none) := by
  induction j with
  | zero =>
    refine ⟨fun q k hk => ?_, fun q r => ?_⟩
    · rw [if_neg (Nat.not_lt_zero k)]; exact hs q k hk
    · unfold chunks; rw [hreg]; simp
  | succ j ih =>
    obtain ⟨ih, ir⟩ := ih (by omega)
    unfold chunks
    generalize hs1 : (if n = 12 then pops (chunks tr W A s n j) j else chunks tr W A s n j) = s1
    have hr1 : ∀ q r, s1.reg q r = if r = regOf n ∧ j = 0 then some ⟨.bf16, tr, W n⟩ else none := by
      intro q r; rw [← hs1, ← ir q r]; split <;> rfl
    refine ⟨fun q k hk => ?_, fun q r => ?_⟩
    · by_cases hkj : k = j
      · subst hkj
        rw [if_pos (Nat.lt_succ_self k)]
        refine holds_accs tr W A n k (fun h0 q => by rw [hr1, if_pos ⟨rfl, h0⟩]) q ?_
        have hold := ih q k hk
        rw [if_neg (Nat.lt_irrefl k)] at hold
        rw [← hs1]
        split
        · exact holds_pops k q
        · exact hold
      · have hiff : k < j + 1 ↔ k < j := by omega
        simp only [hiff]
        refine holds_accs_ne tr W A n j q (by omega) hk hkj ?_
        rw [← hs1]
        split
        · exact holds_pops_ne j q (by omega) hk hkj (by simpa [*] using ih q k hk)
        · simpa [*] using ih q k hk
    · rw [reg_accs, hr1]
      by_cases h0 : j = 0 <;> by_cases hr : r = regOf n <;> simp [h0, hr]

theorem push_holds (n : ℕ) (old : Fin 2 → ℕ → Option (FVec F S128x256 .f32)) (hs : ∀ q k, k < 6 → Holds s q k (old q k)) (q : Fin 2) (k : ℕ)
    (hk : k < 6) : Holds (push tr W s n) q k (old q k) :=
  holds_pushed _ _ _ _ (holds_pushed _ _ _ _ (hs q k hk))

/-- The units after `n` steps. -/
theorem state_spec (n : ℕ) :
    (∀ q k, k < 6 → Holds (state tr W A n) q k (part tr W A q k n))
    ∧ ∀ q r, (state tr W A n).reg q r = none := by
  induction n with
  | zero => exact ⟨fun _ _ _ _ => rfl, fun _ _ => rfl⟩
  | succ n ih =>
    have h := chunks_spec tr W A n (fun q k => part tr W A q k n) (push_holds tr W n _ ih.1)
      (reg_push tr W n ih.2) 6 le_rfl
    refine ⟨fun q k hk => ?_, fun q r => ?_⟩
    · have := h.1 q k hk
      rw [if_pos hk] at this
      exact this
    · exact (h.2 q r).trans (by simp)

theorem drained_spec (j : ℕ) (hj : j ≤ 6) (q : Fin 2) (k : ℕ) (hk : k < 6) (hjk : j ≤ k) :
    Holds (drained tr W A j) q k (part tr W A q k 24) := by
  induction j with
  | zero => exact (state_spec tr W A 24).1 q k hk
  | succ j ih => exact holds_pops_ne j q (by omega) hk (by omega) (ih (by omega) (by omega))

/-- A block about to be popped holds the twelve passes of its column half. -/
theorem before_spec (t : ℕ) (ht : t < 2) (q : Fin 2) (k : ℕ) (hk : k < 6) :
    Holds (before tr W A t k) q k (part tr W A q k (t * 12 + 12)) := by
  unfold before
  split
  next h =>
    subst h
    have h := (chunks_spec tr W A 12 (fun q k => part tr W A q k 12)
      (push_holds tr W 12 _ (state_spec tr W A 12).1)
      (reg_push tr W 12 (state_spec tr W A 12).2) k (by omega)).1 q k hk
    rw [if_neg (Nat.lt_irrefl k)] at h
    exact h
  next h =>
    obtain rfl : t = 1 := by omega
    exact drained_spec tr W A k (by omega) q k hk le_rfl

/-- The value of stored block `m`. -/
def outVal (m : ℕ) : FVec F S128x256 .f32 :=
  if m % 2 = 0 then (before tr W A (m / 12) (m / 2 % 6)).read 0 (m / 2 % 6 % 6 * 32) (adr_fits _)
  else ((before tr W A (m / 12) (m / 2 % 6)).pop 0 (m / 2 % 6 % 6 * 32) 128 (adr_fits _)).read 1 (m / 2 % 6 % 6 * 32) (adr_fits _)

theorem outVal_eq (m : ℕ) (hm : m < 24) :
    some (outVal tr W A m) = part tr W A (regOf m) (m / 2 % 6) (m / 12 * 12 + 12) := by
  have hk : m / 2 % 6 < 6 := Nat.mod_lt _ (by decide)
  have hb := fun q => before_spec tr W A (m / 12) (by omega) q (m / 2 % 6) hk
  unfold outVal
  split
  next h =>
    have e : regOf m = 0 := Fin.ext h
    have hb := hb 0
    rw [e]
    unfold part at hb ⊢
    exact congrArg some hb.2
  next h =>
    have e : regOf m = 1 := Fin.ext (show m % 2 = 1 by omega)
    have hb := holds_pop_ne (hb 1) (apart01 (m / 2 % 6) (m / 2 % 6))
    rw [e]
    unfold part at hb ⊢
    exact congrArg some hb.2

end Body

end Cert.Proof.Mx

end
-- ==== Proof.SparseModel.lean ====
/-
  The products of one grid point of the sparse call as functions of the block of words and the scratch of `x` tiles: the
  weight tile and the `x` tile of one step, and the lists of blocks stored into the two results.
-/
module

public import proofs.«01_k».proof.Proof.SparseFrame
public import proofs.«01_k».proof.Proof.Passes

@[expose] public section

noncomputable section

namespace Cert.Proof.S

open Cert.Sparse Cert.Sparse.Gen
open Idealize.ShloMosaic Idealize.ShloMosaic.TcCoe Idealize.ShloMosaic.Tactic
open Idealize.SL Idealize.SL.RA Idealize.SL.BI
open Idealize.SL.Sem

variable {F : FTy → Type} [FloatOps F]

theorem words_inb (r k : ℕ) : ∀ a, (![r % 32, k % 23, 0, 0] : Fin 4 → ℕ) a + S1x1x8x128.size a ≤ S32x23x8x128.size a := fun a =>
  match a with
  | 0 => Nat.succ_le_of_lt (Nat.mod_lt r (by decide))
  | 1 => Nat.succ_le_of_lt (Nat.mod_lt k (by decide))
  | 2 => le_rfl
  | 3 => le_rfl
theorem xtile_inb (k b : ℕ) : ∀ a, (![k % 23, b % 12 * 128, 0] : Fin 3 → ℕ) a + S1x128x128.size a ≤ S23x1536x128.size a := fun a =>
  match a with
  | 0 => Nat.succ_le_of_lt (Nat.mod_lt k (by decide))
  | 1 => by
      have := Nat.mod_lt b (show 12 > 0 by decide)
      show b % 12 * 128 + 128 ≤ 1536
      omega
  | 2 => le_rfl
theorem out_inb (b t : ℕ) : ∀ a, (![b % 12 * 128, t % 2 * 256] : Fin 2 → ℕ) a + S128x256.size a ≤ S1536x512.size a := fun a =>
  match a with
  | 0 => by
      have := Nat.mod_lt b (show 12 > 0 by decide)
      show b % 12 * 128 + 128 ≤ 1536
      omega
  | 1 => by
      have := Nat.mod_lt t (show 2 > 0 by decide)
      show t % 2 * 256 + 256 ≤ 512
      omega

/-- Sixteen rows of weights from eight rows of words: each word its two halves. -/
def rows (w : Vec F S1x1x8x128 .i32) : FVec F S16x128 .bf16 :=
  bitcastToFloat .bf16 (bitcast S16x128 16 (shapeCast S8x128 (w : IVec S1x1x8x128 32) shapeCasts_S1x1x8x128_S8x128) bitcasts_S8x128_w32_S16x128_w16)

section Body

variable (M2 : Memref sig .tc .vmem S32x23x8x128 .i32) (M3 : Memref sig .tc .vmem S1536x512 .f32)
  (M6 : Memref sig .tc .vmem S23x1536x128 .bf16)
  (c : Dev nD) (f2 : Bf (F := F) c M2) (f3 : Bf (F := F) c M3) (X : Bf (F := F) c M6)

/-- The weights of word row `r` at column tile `k`. -/
def rowsAt (r k : ℕ) : FVec F S16x128 .bf16 :=
  rows (View.readAt (Elt F) M2.view (Rect.unit (s := S32x23x8x128) ![r % 32, k % 23, 0, 0] S1x1x8x128.size (words_inb r k)).toLoadRect f2)

/-- The 256 rows of weights from word row `r` on, at column tile `k`. -/
def halfAt (r k : ℕ) : FVec F S256x128 .bf16 :=
  concatenate S256x128 0 ((List.range 16).map fun o => (⟨S16x128, rowsAt M2 c f2 (r + o) k⟩ : (s : Shape) × (s.Idx → F .bf16)))
    concatenates_S16x128_S16x128_S16x128_S16x128_S16x128_S16x128_S16x128_S16x128_S16x128_S16x128_S16x128_S16x128_S16x128_S16x128_S16x128_S16x128_S256x128_d0

/-- The weight tile of step `n`: the rows of half `n / 12` of the block, at the columns of tile `n % 12`; the last tile
    ends in zeros. -/
def wAt (n : ℕ) : FVec F S256x256 .bf16 :=
  concatenate S256x256 1 [⟨S256x128, halfAt M2 c f2 (n / 12 * 16) (n % 12 * 2)⟩,
      ⟨S256x128, if n % 12 = 11 then broadcast S256x128 (FloatOps.ofBits (F := F) .bf16 0#16) else halfAt M2 c f2 (n / 12 * 16) (n % 12 * 2 + 1)⟩]
    concatenates_S256x128_S256x128_S256x256_d1

/-- Tile `k` of the scratch at rows `128 b` to `128 b + 127`. -/
def xTile (k b : ℕ) : FVec F S128x128 .bf16 :=
  shapeCast S128x128 (View.readAt (Elt F) M6.view (Rect.unit (s := S23x1536x128) ![k % 23, b % 12 * 128, 0] S1x128x128.size (xtile_inb k b)).toLoadRect X)
    shapeCasts_S1x128x128_S128x128

/-- The left operand of step `n` at those rows. -/
def xAt (n b : ℕ) : FVec F S128x256 .bf16 :=
  concatenate S128x256 1 [⟨S128x128, xTile M6 c X (n % 12 * 2) b⟩,
      ⟨S128x128, if n % 12 = 11 then broadcast S128x128 (FloatOps.ofBits (F := F) .bf16 0#16) else xTile M6 c X (n % 12 * 2 + 1) b⟩]
    concatenates_S128x128_S128x128_S128x256_d1

/-- The rectangle of stored block `m`: column half `m / 12`, chunk `m / 2 % 6`, unit `m % 2`. -/
abbrev rect (m : ℕ) : Rect S1536x512 :=
  Rect.unit (s := S1536x512) ![(m % 2 * 6 + m / 2 % 6) % 12 * 128, m / 12 % 2 * 256] S128x256.size (out_inb _ _)

/-- The value popped for block `m`. -/
abbrev val (m : ℕ) : FVec F S128x256 .f32 := Mx.outVal true (wAt M2 c f2) (xAt M6 c X) m

/-- The blocks stored into the product's result, and into the sum's. -/
def outs5 : ℕ → List (View.Piece (Elt F) S1536x512 .f32)
  | 0 => []
  | m + 1 => ⟨rect m, val M2 M6 c f2 X m⟩ :: outs5 m
def outs4 : ℕ → List (View.Piece (Elt F) S1536x512 .bf16)
  | 0 => []
  | m + 1 => ⟨rect m, (truncf .bf16 (addf (View.readAt (Elt F) M3.view (rect m).toLoadRect f3 : FVec F S128x256 .f32) (val M2 M6 c f2 X m)) bitsLt_bf16_f32 : FVec F S128x256 .bf16)⟩ :: outs4 m

/-- The run's lists of stored blocks are these. -/
theorem outs5_eq : lumpRun.sl.H5_24 M2 M6 c f2 X = outs5 M2 M6 c f2 X 24 := by
  sl_kernel_rfl
theorem outs4_eq : lumpRun.sl.H4_24 M2 M3 M6 c f2 f3 X = outs4 M2 M3 M6 c f2 f3 X 24 := by
  sl_kernel_rfl

end Body

end Cert.Proof.S

end
-- ==== Proof.SparseTarget.lean ====
/-
  The results both programs of the sparse call are compared with: every element of the product one sum of 2944 products,
  and the sum of that product and the third argument.
-/
module

public import Idealize.ShloMosaic.Lib.IdealHost
public import Idealize.ShloMosaic.Lib.Pipeline.ValueKit.Geometry

@[expose] public section

noncomputable section

namespace Cert.Proof.S

open Idealize.ShloMosaic Idealize.ShloMosaic.ValueIdx
open scoped BigOperators

/-- The weight of row `κ` for channel `n`, from words of any number of channels: a word holds two channels, the even one
    in its low half. -/
def entry {F : FTy → Type} [FloatOps F] {R C : ℕ} (h : C = R * 16) (d : (⟨4, ![R, 23, 8, 128]⟩ : Shape).Idx → BitVec 32)
    (κ : Fin 2944) (n : Fin C) : F .bf16 :=
  FloatOps.ofBits .bf16 ((d (ix4 (⟨n.val / 16, by omega⟩ : Fin R) (⟨κ.val / 128, by omega⟩ : Fin 23) (⟨n.val % 16 / 2, by omega⟩ : Fin 8)
    (⟨κ.val % 128, Nat.mod_lt _ (by decide)⟩ : Fin 128))).extractLsb' (16 * (n.val % 2)) 16)

/-- Row `κ` of `x` at row `m` of the product, from the tiles of `x`. -/
def tileAt {α : Type} (xs : (⟨3, ![23, 1536, 128]⟩ : Shape).Idx → α) (m : Fin 1536) (κ : Fin 2944) : α :=
  xs (ix3 (⟨κ.val / 128, by omega⟩ : Fin 23) m (⟨κ.val % 128, Nat.mod_lt _ (by decide)⟩ : Fin 128))

/-- One element of the product. -/
def cell {R C : ℕ} (h : C = R * 16) (xs : (⟨3, ![23, 1536, 128]⟩ : Shape).Idx → EReal) (d : (⟨4, ![R, 23, 8, 128]⟩ : Shape).Idx → BitVec 32)
    (m : Fin 1536) (n : Fin C) : EReal :=
  ∑ κ : Fin 2944, tileAt xs m κ * entry (F := Ideal) h d κ n

/-- The product, and the sum. -/
def product {R C : ℕ} (h : C = R * 16) (xs : (⟨3, ![23, 1536, 128]⟩ : Shape).Idx → EReal) (d : (⟨4, ![R, 23, 8, 128]⟩ : Shape).Idx → BitVec 32) :
    (⟨2, ![1536, C]⟩ : Shape).Idx → EReal := fun y => cell h xs d (⟨(y 0).val, idx2_lt0 y⟩ : Fin 1536) (⟨(y 1).val, idx2_lt1 y⟩ : Fin C)
def total {R C : ℕ} (h : C = R * 16) (xs : (⟨3, ![23, 1536, 128]⟩ : Shape).Idx → EReal) (d : (⟨4, ![R, 23, 8, 128]⟩ : Shape).Idx → BitVec 32)
    (yd : (⟨2, ![1536, C]⟩ : Shape).Idx → EReal) : (⟨2, ![1536, C]⟩ : Shape).Idx → EReal := fun y => yd y + product h xs d y

end Cert.Proof.S

end
-- ==== Proof.SparseOperands.lean ====
/-
  The operands of one step of the sparse call, element by element: the weight tile in the words of the block, and the
  left operand in the tiles of `x`.
-/
module

public import proofs.«01_k».proof.Proof.SparseModel
public import proofs.«01_k».proof.Proof.SparseTarget
public import Idealize.ShloMosaic.Lib.BitcastPair
public import Idealize.ShloMosaic.Lib.Pointwise.ElementwiseCore
public import Idealize.ShloMosaic.Lib.ValueLayout

@[expose] public section

noncomputable section

namespace Cert.Proof.S

open Cert.Sparse Cert.Sparse.Gen
open Idealize.ShloMosaic Idealize.ShloMosaic.TcCoe Idealize.ShloMosaic.Tactic Idealize.ShloMosaic.ValueIdx
open Idealize.SL Idealize.SL.RA Idealize.SL.BI
open Idealize.SL.Sem

variable {F : FTy → Type} [FloatOps F]

theorem rows_apply (w : Vec F S1x1x8x128 .i32) (i : Fin 16) (j : Fin 128) :
    rows (F := F) w (ix2 i j)
      = FloatOps.ofBits .bf16 (((w : IVec S1x1x8x128 32) (ix4 (0 : Fin 1) (0 : Fin 1) (⟨i.val / 2, by omega⟩ : Fin 8) j)).extractLsb' (16 * (i.val % 2)) 16) := by
  unfold rows
  rw [bitcastToFloat_apply]
  refine congrArg (FloatOps.ofBits (F := F) .bf16) ?_
  rw [bitcast_32_16]
  have e : ∀ h, Shape.Bitcasts.srcIdx bitcasts_S8x128_w32_S16x128_w16 (ix2 i j) (S16x128.row (ix2 i j) / 2) h = ix2 (⟨i.val / 2, by omega⟩ : Fin 8) j := by
    intro h
    funext a
    match a with
    | 0 => rfl
    | 1 => rfl
  rw [e]
  have er : S16x128.row (ix2 i j) = i.val := rfl
  rw [er, shapeCast_apply (k := ix4 (0 : Fin 1) (0 : Fin 1) (⟨i.val / 2, by omega⟩ : Fin 8) j)
    (hk := by rw [Shape.rowMajor_val_two, Shape.rowMajor_val_four]; show (((0 * 1 + 0) * 8 + i.val / 2) * 128 + j.val) = i.val / 2 * 128 + j.val; omega)]

section Body

variable (M2 : Memref sig .tc .vmem S32x23x8x128 .i32) (h2 : M2.IsWhole) (c : Dev nD) (d2 : S32x23x8x128.Idx → Elt F .i32)

theorem rowsAt_apply (r k : ℕ) (hr : r < 32) (hk : k < 23) (i : Fin 16) (j : Fin 128) :
    rowsAt M2 c (h2.unread d2) r k (ix2 i j)
      = entry (F := F) (R := 32) (C := 512) rfl d2 (⟨k * 128 + j.val, by omega⟩ : Fin 2944) (⟨r * 16 + i.val, by omega⟩ : Fin 512) := by
  have hj := j.isLt
  have hi := i.isLt
  unfold rowsAt entry
  rw [rows_apply]
  refine congrArg (FloatOps.ofBits FTy.bf16) ?_
  have e1 : (r * 16 + i.val) % 2 = i.val % 2 := by omega
  refine (congrArg (fun w : BitVec 32 => w.extractLsb' (16 * (i.val % 2)) 16) ((h2.readAt_unread d2 _ _).trans (congrArg d2 ?_))).trans
    (congrArg (fun p => BitVec.extractLsb' (16 * p) 16 _) e1.symm)
  funext a
  apply Fin.ext
  match a with
  | 0 => show r % 32 + 1 * 0 = (r * 16 + i.val) / 16; omega
  | 1 => show k % 23 + 1 * 0 = (k * 128 + j.val) / 128; omega
  | 2 => show 0 + 1 * (i.val / 2) = (r * 16 + i.val) % 16 / 2; omega
  | 3 => show 0 + 1 * j.val = (k * 128 + j.val) % 128; omega

theorem halfAt_apply (r k : ℕ) (hr : r + 16 ≤ 32) (hk : k < 23) (i : Fin 256) (j : Fin 128) :
    halfAt M2 c (h2.unread d2) r k (ix2 i j)
      = entry (F := F) (R := 32) (C := 512) rfl d2 (⟨k * 128 + j.val, by omega⟩ : Fin 2944) (⟨r * 16 + i.val, by omega⟩ : Fin 512) := by
  have hi := i.isLt
  have ho : i.val / 16 < 16 := by omega
  unfold halfAt
  refine (concatenate_apply_piece (t := S256x128) 0 _ _ (ix2 i j) (i.val / 16) (by rw [List.length_map, List.length_range]; exact ho) S16x128
    (rowsAt M2 c (h2.unread d2) (r + i.val / 16) k) (by rw [List.getElem_map, List.getElem_range]) rfl (i.val / 16 * 16)
    (by
      have : ∀ o : Fin 16, ((((List.range 16).map fun _ => S16x128).take o.val).map
          fun s => if h : s.rank = S256x128.rank then s.size ((0 : Fin S256x128.rank).cast h.symm) else 0).sum = o.val * 16 := by decide
      refine Eq.trans ?_ (this ⟨i.val / 16, ho⟩)
      rw [List.map_take, List.map_map]; rfl)
    (ix2 (⟨i.val % 16, Nat.mod_lt _ (by decide)⟩ : Fin 16) j)
    (fun b hb => match b with | 0 => absurd rfl hb | 1 => rfl) (by show i.val / 16 * 16 + i.val % 16 = i.val; omega)).trans ?_
  rw [rowsAt_apply M2 h2 c d2 _ k (by omega) hk]
  congr 1
  apply Fin.ext
  show (r + i.val / 16) * 16 + i.val % 16 = r * 16 + i.val
  omega

/-- An element of the weight tile of step `n`: channel `s` of the tile, row `i`. -/
theorem wAt_apply (n : ℕ) (hn : n < 24) (s i : Fin 256) :
    wAt M2 c (h2.unread d2) n (ix2 s i)
      = if h : n % 12 * 256 + i.val < 2944 then
          entry (F := F) (R := 32) (C := 512) rfl d2 (⟨n % 12 * 256 + i.val, h⟩ : Fin 2944) (⟨n / 12 * 256 + s.val, by omega⟩ : Fin 512)
        else FloatOps.ofBits .bf16 0#16 := by
  have hs := s.isLt
  have hi := i.isLt
  have ec : n / 12 * 16 * 16 + s.val = n / 12 * 256 + s.val := by omega
  unfold wAt
  by_cases h : i.val < 128
  · rw [concatenate_pair_apply_left (i := ix2 s (⟨i.val, h⟩ : Fin 128)) (t := S256x256) (s₁ := S256x128) (s₂ := S256x128) (a := 1) (hr := rfl) (hi := fun b => match b with | 0 => rfl | 1 => rfl)]
    rw [halfAt_apply M2 h2 c d2 (n / 12 * 16) (n % 12 * 2) (by omega) (by omega), dif_pos (by omega)]
    have e : n % 12 * 2 * 128 + i.val = n % 12 * 256 + i.val := by omega
    simp only [e, ec]
  · rw [concatenate_pair_apply_right (i := ix2 s (⟨i.val - 128, by omega⟩ : Fin 128)) (t := S256x256) (s₁ := S256x128) (s₂ := S256x128) (a := 1) (hr := rfl) (hr₂ := rfl)
      (hi := fun b hb => match b with | 0 => rfl | 1 => absurd rfl hb) (ha := by show i.val - 128 + 128 = i.val; omega)]
    by_cases h11 : n % 12 = 11
    · rw [if_pos h11, dif_neg (by omega)]
      rfl
    · rw [if_neg h11, halfAt_apply M2 h2 c d2 (n / 12 * 16) (n % 12 * 2 + 1) (by omega) (by omega), dif_pos (by omega)]
      have e : (n % 12 * 2 + 1) * 128 + (i.val - 128) = n % 12 * 256 + i.val := by omega
      simp only [e, ec]

end Body

theorem xTile_apply (c : Dev nD) (fx : Bf (F := F) c mX) (k b : ℕ) (hk : k < 23) (hb : b < 12) (r s : Fin 128) :
    xTile mT c (copied c fx) k b (ix2 r s) = tileAt (α := F .bf16) fx (⟨b * 128 + r.val, by omega⟩ : Fin 1536) (⟨k * 128 + s.val, by omega⟩ : Fin 2944) := by
  have hr := r.isLt
  have hs := s.isLt
  unfold xTile tileAt copied
  rw [shapeCast_1ab_ab_apply]
  refine ((Memref.isWhole_whole cc0_scratch0).readAt_unread _ _ _).trans ?_
  show fx _ = fx _
  congr 1
  funext a
  apply Fin.ext
  match a with
  | 0 => show k % 23 + 1 * 0 = (k * 128 + s.val) / 128; omega
  | 1 => show b % 12 * 128 + 1 * r.val = b * 128 + r.val; omega
  | 2 => show 0 + 1 * s.val = (k * 128 + s.val) % 128; omega

/-- An element of the left operand of step `n`. -/
theorem xAt_apply (c : Dev nD) (fx : Bf (F := F) c mX) (n b : ℕ) (hb : b < 12) (r : Fin 128) (i : Fin 256) :
    xAt mT c (copied c fx) n b (ix2 r i)
      = if h : n % 12 * 256 + i.val < 2944 then
          tileAt (α := F .bf16) fx (⟨b * 128 + r.val, by omega⟩ : Fin 1536) (⟨n % 12 * 256 + i.val, h⟩ : Fin 2944)
        else FloatOps.ofBits .bf16 0#16 := by
  have hi := i.isLt
  unfold xAt
  by_cases h : i.val < 128
  · rw [concatenate_pair_apply_left (i := ix2 r (⟨i.val, h⟩ : Fin 128)) (t := S128x256) (s₁ := S128x128) (s₂ := S128x128) (a := 1) (hr := rfl) (hi := fun b => match b with | 0 => rfl | 1 => rfl)]
    rw [xTile_apply c fx _ b (by omega) hb, dif_pos (by omega)]
    have e : n % 12 * 2 * 128 + i.val = n % 12 * 256 + i.val := by omega
    simp only [e]
  · rw [concatenate_pair_apply_right (i := ix2 r (⟨i.val - 128, by omega⟩ : Fin 128)) (t := S128x256) (s₁ := S128x128) (s₂ := S128x128) (a := 1) (hr := rfl) (hr₂ := rfl)
      (hi := fun b hb => match b with | 0 => rfl | 1 => absurd rfl hb) (ha := by show i.val - 128 + 128 = i.val; omega)]
    by_cases h11 : n % 12 = 11
    · rw [if_pos h11, dif_neg (by omega)]
      rfl
    · rw [if_neg h11, xTile_apply c fx _ b (by omega) hb, dif_pos (by omega)]
      have e : (n % 12 * 2 + 1) * 128 + (i.val - 128) = n % 12 * 256 + i.val := by omega
      simp only [e]

end Cert.Proof.S

end
-- ==== Proof.SparseBlock.lean ====
/-
  What the sparse body leaves in its results' blocks at exact arithmetic, element by element: one sum of 2944 products,
  and the sum of that and the third argument's block.
-/
module

public import proofs.«01_k».proof.Proof.SparseOperands
public import Idealize.ShloMosaic.Lib.MatmulPlain

@[expose] public section

noncomputable section

namespace Cert.Proof.S

open Cert.Sparse Cert.Sparse.Gen
open Idealize.ShloMosaic Idealize.ShloMosaic.TcCoe Idealize.ShloMosaic.Tactic Idealize.ShloMosaic.ValueIdx
open Idealize.SL Idealize.SL.RA Idealize.SL.BI
open Idealize.SL.Sem
open scoped BigOperators

/-- One pass of the matrix unit with the staged tile turned over, read at an element. -/
theorem pass_apply {φ₁ φ₂ : FTy} (lhs : FVec Ideal S128x256 φ₁) (rhs : FVec Ideal S256x256 φ₂) (r : Fin 128) (s : Fin 256) :
    (FloatOps.mxuPass (F := Ideal) (DotDims.transposedRhs 128 256 256) lhs rhs : FVec Ideal S128x256 .f32) (ix2 r s)
      = ∑ k : Fin 256, lhs (ix2 r k) * rhs (ix2 s k) := by
  refine Eq.trans ?_ ((Ideal.matmul_transposedRhs_apply (M := 128) (K := 256) (N := 256) none lhs rhs (fun _ => 0) r s).trans (zero_add _))
  exact ((Ideal.matmul_apply (DotDims.transposedRhs 128 256 256) none lhs rhs (fun _ => 0) (ix2 r s)).trans (zero_add _)).symm

/-- One term of the product: zero past the last row. -/
def term (fx : S23x1536x128.Idx → EReal) (d2 : S32x23x8x128.Idx → BitVec 32) (m : Fin 1536) (n : Fin 512) (κ : ℕ) : EReal :=
  if h : κ < 2944 then tileAt fx m ⟨κ, h⟩ * entry (F := Ideal) (R := 32) (C := 512) rfl d2 ⟨κ, h⟩ n else 0

theorem sum_term (fx : S23x1536x128.Idx → EReal) (d2 : S32x23x8x128.Idx → BitVec 32) (m : Fin 1536) (n : Fin 512) (k : ℕ) (hk : k = 3072) :
    ∑ κ ∈ Finset.range k, term fx d2 m n κ = cell (R := 32) (C := 512) rfl fx d2 m n := by
  obtain rfl : k = 2944 + 128 := hk
  rw [Finset.sum_range_add, Finset.sum_eq_zero (s := Finset.range 128), add_zero, Finset.sum_range]
  · refine Finset.sum_congr rfl fun κ _ => ?_
    exact dif_pos κ.isLt
  · intro x _
    exact dif_neg (by omega)

section Body

variable (M2 : Memref sig .tc .vmem S32x23x8x128 .i32) (h2 : M2.IsWhole) (M3 : Memref sig .tc .vmem S1536x512 .f32) (h3 : M3.IsWhole)
  (c : Dev nD) (d2 : S32x23x8x128.Idx → Elt Ideal .i32) (d3 : S1536x512.Idx → Elt Ideal .f32) (fx : Bf (F := Ideal) c mX)

/-- The weight tiles and the left operands of the steps. -/
abbrev wOf : ℕ → FVec Ideal S256x256 .bf16 := wAt M2 c (h2.unread d2)
abbrev xOf : ℕ → ℕ → FVec Ideal S128x256 .bf16 := xAt mT c (copied c fx)

theorem passAt_apply (n : ℕ) (hn : n < 24) (q : Fin 2) (k : ℕ) (hk : q.val * 6 + k < 12) (r : Fin 128) (s : Fin 256) :
    Mx.passAt true (wOf M2 h2 c d2) (xOf c fx) n q k (ix2 r s)
      = ∑ i ∈ Finset.range 256, term fx d2 ⟨(q.val * 6 + k) * 128 + r.val, by omega⟩ ⟨n / 12 * 256 + s.val, by omega⟩ (n % 12 * 256 + i) := by
  refine (pass_apply (xOf c fx n (q.val * 6 + k)) (wOf M2 h2 c d2 n) r s).trans ?_
  rw [Finset.sum_range]
  refine Finset.sum_congr rfl fun i _ => ?_
  refine (congrArg₂ (· * ·) (xAt_apply c fx n _ hk r i) (wAt_apply M2 h2 c d2 n hn s i)).trans ?_
  unfold term
  by_cases h : n % 12 * 256 + i.val < 2944
  · rw [dif_pos h, dif_pos h, dif_pos h]
  · rw [dif_neg h, dif_neg h, dif_neg h]
    exact (congrArg (· * _) Ideal.ofBits_zero_bf16).trans (zero_mul _)

theorem part_apply (t : ℕ) (ht : t < 2) (q : Fin 2) (k : ℕ) (hk : q.val * 6 + k < 12) (r : Fin 128) (s : Fin 256) (j : ℕ) (hj : j < 12) :
    ∃ v, Mx.part true (wOf M2 h2 c d2) (xOf c fx) q k (t * 12 + j + 1) = some v ∧
      v (ix2 r s) = ∑ i ∈ Finset.range (j * 256 + 256), term fx d2 ⟨(q.val * 6 + k) * 128 + r.val, by omega⟩ ⟨t * 256 + s.val, by omega⟩ i := by
  have ht' : (t * 12 + j) / 12 = t := by omega
  have hm : (t * 12 + j) % 12 = j := by omega
  have hp := passAt_apply M2 h2 c d2 fx (t * 12 + j) (by omega) q k hk r s
  simp only [ht', hm] at hp
  refine ⟨_, rfl, ?_⟩
  induction j with
  | zero =>
    have : (if t * 12 + 0 = 12 then none else Mx.part true (wOf M2 h2 c d2) (xOf c fx) q k (t * 12 + 0)) = none := by
      split
      · rfl
      · next h =>
        obtain rfl : t = 0 := by omega
        rfl
    rw [this]
    simp only [Nat.zero_mul, Nat.zero_add] at hp ⊢
    exact hp
  | succ j ih =>
    obtain ih := ih (by omega) (by omega) (by omega)
      (by
        have := passAt_apply M2 h2 c d2 fx (t * 12 + j) (by omega) q k hk r s
        have e1 : (t * 12 + j) / 12 = t := by omega
        have e2 : (t * 12 + j) % 12 = j := by omega
        simp only [e1, e2] at this
        exact this)
    rw [if_neg (by omega)]
    have e : (j + 1) * 256 + 256 = (j * 256 + 256) + 256 := by omega
    have e' : (j + 1) * 256 = j * 256 + 256 := by omega
    rw [e, Finset.sum_range_add, ← ih]
    rw [e'] at hp
    rw [← hp]
    rfl

/-- An element of stored block `m`'s product. -/
theorem val_apply (m : ℕ) (hm : m < 24) (r : Fin 128) (s : Fin 256) :
    val M2 mT c (h2.unread d2) (copied c fx) m (ix2 r s)
      = cell (R := 32) (C := 512) rfl fx d2 ⟨(m % 2 * 6 + m / 2 % 6) * 128 + r.val, by omega⟩ ⟨m / 12 * 256 + s.val, by omega⟩ := by
  obtain ⟨v, hv, he⟩ := part_apply M2 h2 c d2 fx (m / 12) (by omega) (Mx.regOf m) (m / 2 % 6)
    (by show m % 2 * 6 + m / 2 % 6 < 12; omega) r s 11 (by decide)
  have := (Mx.outVal_eq true (wOf M2 h2 c d2) (xOf c fx) m hm).trans hv
  refine (congrFun (Option.some.inj this) (ix2 r s)).trans (he.trans ?_)
  exact sum_term fx d2 _ _ _ rfl

/-- Element `(r, s)` of stored block `m`, in the results' block. -/
theorem rect_emb (m : ℕ) (hm : m < 24) (r : Fin 128) (s : Fin 256) :
    ((rect m).emb (ix2 r s) : S1536x512.Idx)
      = ix2 (⟨(m % 2 * 6 + m / 2 % 6) * 128 + r.val, by omega⟩ : Fin 1536) (⟨m / 12 * 256 + s.val, by omega⟩ : Fin 512) := by
  funext a; apply Fin.ext
  match a with
  | ⟨0, _⟩ => show (m % 2 * 6 + m / 2 % 6) % 12 * 128 + 1 * r.val = _; show _ = (m % 2 * 6 + m / 2 % 6) * 128 + r.val; omega
  | ⟨1, _⟩ => show m / 12 % 2 * 256 + 1 * s.val = m / 12 * 256 + s.val; omega

theorem outs5_pieces : ∀ n ≤ 24, ∀ p ∈ outs5 M2 mT c (h2.unread d2) (copied c fx) n, ∀ x : p.1.shape.Idx,
    p.2 x = product (R := 32) (C := 512) rfl fx d2 (p.1.emb x)
  | 0, _, p, hp => absurd hp List.not_mem_nil
  | n + 1, hn, p, hp => by
    rcases List.mem_cons.mp hp with rfl | hp
    · intro (x : S128x256.Idx)
      obtain ⟨r, s, rfl⟩ : ∃ (r : Fin 128) (s : Fin 256), x = ix2 r s := ⟨x 0, x 1, by funext a; fin_cases a <;> rfl⟩
      refine (val_apply M2 h2 c d2 fx n (by omega) r s).trans ?_
      rw [rect_emb n (by omega)]
      rfl
    · exact outs5_pieces n (by omega) p hp

theorem outs4_pieces : ∀ n ≤ 24, ∀ p ∈ outs4 M2 M3 mT c (h2.unread d2) (h3.unread d3) (copied c fx) n, ∀ x : p.1.shape.Idx,
    p.2 x = total (R := 32) (C := 512) rfl fx d2 d3 (p.1.emb x)
  | 0, _, p, hp => absurd hp List.not_mem_nil
  | n + 1, hn, p, hp => by
    rcases List.mem_cons.mp hp with rfl | hp
    · intro (x : S128x256.Idx)
      obtain ⟨r, s, rfl⟩ : ∃ (r : Fin 128) (s : Fin 256), x = ix2 r s := ⟨x 0, x 1, by funext a; fin_cases a <;> rfl⟩
      refine (congrArg₂ (· + ·) (h3.readAt_unread d3 _ _) (val_apply M2 h2 c d2 fx n (by omega) r s)).trans ?_
      show d3 ((rect n).emb (ix2 r s)) + _ = total (R := 32) (C := 512) rfl fx d2 d3 ((rect n).emb (ix2 r s))
      rw [rect_emb n (by omega)]
      rfl
    · exact outs4_pieces n (by omega) p hp

theorem outs5_mem (k : ℕ) : ∀ n, k < n →
    (⟨rect k, val M2 mT c (h2.unread d2) (copied c fx) k⟩ : View.Piece (Elt Ideal) S1536x512 .f32) ∈ outs5 M2 mT c (h2.unread d2) (copied c fx) n
  | 0, h => absurd h (Nat.not_lt_zero _)
  | n + 1, h => by
    rcases Nat.lt_succ_iff_lt_or_eq.mp h with h | rfl
    · exact List.mem_cons_of_mem _ (outs5_mem k n h)
    · exact List.mem_cons_self

theorem outs4_mem (k : ℕ) : ∀ n, k < n → ∃ v,
    (⟨rect k, v⟩ : View.Piece (Elt Ideal) S1536x512 .bf16) ∈ outs4 M2 M3 mT c (h2.unread d2) (h3.unread d3) (copied c fx) n
  | 0, h => absurd h (Nat.not_lt_zero _)
  | n + 1, h => by
    rcases Nat.lt_succ_iff_lt_or_eq.mp h with h | rfl
    · obtain ⟨v, hv⟩ := outs4_mem k n h
      exact ⟨v, List.mem_cons_of_mem _ hv⟩
    · exact ⟨_, List.mem_cons_self⟩

theorem digits (t b q k : ℕ) (hq : q < 2) (hb : b < 6) (h : t * 12 + b * 2 + q = k) : k % 2 = q ∧ k / 2 % 6 = b ∧ k / 12 = t := by
  refine ⟨by omega, by omega, by omega⟩

/-- Every element of the results' block lies in one of the stored blocks. -/
theorem rect_covers (y : S1536x512.Idx) : ∃ k < 24, y ∈ (rect k).set := by
  have h0 : (y 0).val < 1536 := (y 0).isLt
  have h1 : (y 1).val < 512 := (y 1).isLt
  refine ⟨(y 1).val / 256 * 12 + (y 0).val / 128 % 6 * 2 + (y 0).val / 128 / 6, by omega, ?_⟩
  generalize hk : (y 1).val / 256 * 12 + (y 0).val / 128 % 6 * 2 + (y 0).val / 128 / 6 = k
  obtain ⟨e1, e2, e3⟩ := digits _ _ _ k (by omega) (by omega) hk
  rw [Rect.mem_set_unit]
  intro a
  match a with
  | 0 =>
    show (k % 2 * 6 + k / 2 % 6) % 12 * 128 ≤ (y 0).val ∧ (y 0).val < (k % 2 * 6 + k / 2 % 6) % 12 * 128 + 128
    rw [e1, e2]; omega
  | 1 =>
    show k / 12 % 2 * 256 ≤ (y 1).val ∧ (y 1).val < k / 12 % 2 * 256 + 256
    rw [e3]; omega

theorem read_outs5 (M5 : Memref sig .tc .vmem S1536x512 .f32) (n : ℕ) (hn : n = 24) (y : S1536x512.Idx) :
    M5.view.read (Elt Ideal) (M5.view.writes (Elt Ideal) M5.view.junk (outs5 M2 mT c (h2.unread d2) (copied c fx) n)) y
      = product (R := 32) (C := 512) rfl fx d2 y := by
  obtain ⟨k, hk, hy⟩ := rect_covers y
  exact View.read_writes_apply_of_pieces M5.view M5.view.junk (product (R := 32) (C := 512) rfl fx d2) _
    (outs5_pieces M2 h2 c d2 fx n hn.le) y ⟨_, outs5_mem M2 h2 c d2 fx k n (by omega), hy⟩

theorem read_outs4 (M4 : Memref sig .tc .vmem S1536x512 .bf16) (n : ℕ) (hn : n = 24) (y : S1536x512.Idx) :
    M4.view.read (Elt Ideal) (M4.view.writes (Elt Ideal) M4.view.junk (outs4 M2 M3 mT c (h2.unread d2) (h3.unread d3) (copied c fx) n)) y
      = total (R := 32) (C := 512) rfl fx d2 d3 y := by
  obtain ⟨k, hk, hy⟩ := rect_covers y
  obtain ⟨v, hv⟩ := outs4_mem M2 h2 M3 h3 c d2 d3 fx k n (by omega)
  exact View.read_writes_apply_of_pieces M4.view M4.view.junk (total (R := 32) (C := 512) rfl fx d2 d3) _
    (outs4_pieces M2 h2 M3 h3 c d2 d3 fx n hn.le) y ⟨_, hv, hy⟩

variable (i : grid0.Coords) (M4 : Memref sig .tc .vmem S1536x512 .bf16) (h4 : M4.IsWhole) (M5 : Memref sig .tc .vmem S1536x512 .f32) (h5 : M5.IsWhole)

/-- The results' blocks after the body. -/
theorem outS_apply (y : S1536x512.Idx) :
    outS i M2 h2 M3 h3 M4 h4 M5 h5 c d2 d3 (copied c fx) y = product (R := 32) (C := 512) rfl fx d2 y :=
  (congrArg (fun L => M5.view.read (Elt Ideal) (M5.view.writes (Elt Ideal) M5.view.junk L) y)
    (outs5_eq M2 mT c (h2.unread d2) (copied c fx))).trans (read_outs5 M2 h2 c d2 fx M5 24 rfl y)
theorem outY_apply (y : S1536x512.Idx) :
    outY i M2 h2 M3 h3 M4 h4 M5 h5 c d2 d3 (copied c fx) y = total (R := 32) (C := 512) rfl fx d2 d3 y :=
  (congrArg (fun L => M4.view.read (Elt Ideal) (M4.view.writes (Elt Ideal) M4.view.junk L) y)
    (outs4_eq M2 M3 mT c (h2.unread d2) (h3.unread d3) (copied c fx))).trans (read_outs4 M2 h2 M3 h3 c d2 d3 fx M4 24 rfl y)

end Body

end Cert.Proof.S

end
-- ==== Proof.SparseArray.lean ====
/-
  The sparse call's results after the run, in the arguments as launched.
-/
module

public import proofs.«01_k».proof.Proof.SparseBlock

@[expose] public section

noncomputable section

namespace Cert.Proof.S

open Cert.Sparse Cert.Sparse.Gen
open Idealize.ShloMosaic Idealize.ShloMosaic.TcCoe Idealize.ShloMosaic.Tactic Idealize.ShloMosaic.ValueIdx
open Idealize.SL Idealize.SL.RA Idealize.SL.BI
open Idealize.SL.Sem
open Idealize.ShloMosaic.Pipeline (Dat Cfg Window)
open scoped BigOperators

/-- A block of the product's columns is the product with that block of the words. -/
theorem cell_cols (fx : S23x1536x128.Idx → EReal) (d : S32x23x8x128.Idx → BitVec 32) (D : S320x23x8x128.Idx → BitVec 32) (t : ℕ) (ht : t < 10)
    (h : ∀ (r : Fin 32) (k : Fin 23) (i : Fin 8) (j : Fin 128), d (ix4 r k i j) = D (ix4 (⟨t * 32 + r.val, by omega⟩ : Fin 320) k i j))
    (m : Fin 1536) (n : Fin 512) :
    cell (R := 32) (C := 512) rfl fx d m n = cell (R := 320) (C := 5120) rfl fx D m ⟨t * 512 + n.val, by omega⟩ := by
  have hn := n.isLt
  unfold cell entry
  have e1 : (t * 512 + n.val) / 16 = t * 32 + n.val / 16 := by omega
  have e2 : (t * 512 + n.val) % 16 = n.val % 16 := by omega
  have e3 : (t * 512 + n.val) % 2 = n.val % 2 := by omega
  simp only [h, e1, e2, e3]

variable (m : (ℓ : Loc nD τ sig) → Buf (Elt Ideal) ℓ) (ρ : Dev nD → PrngReg)

/-- The block index of each window is the grid point. -/
theorem idx0 : ∀ t : Fin cfg0.N, win0_0.index t (0 : Fin 4) = t.val ∧ win0_0.index t (1 : Fin 4) = 0 ∧ win0_0.index t (2 : Fin 4) = 0 ∧ win0_0.index t (3 : Fin 4) = 0 :=
  (by decide +kernel : ∀ t : Fin grid0.N, _)
theorem idx1 : ∀ t : Fin cfg0.N, win0_1.index t (0 : Fin 2) = 0 ∧ win0_1.index t (1 : Fin 2) = t.val := (by decide +kernel : ∀ t : Fin grid0.N, _)
theorem idx2 : ∀ t : Fin cfg0.N, win0_2.index t (0 : Fin 2) = 0 ∧ win0_2.index t (1 : Fin 2) = t.val := (by decide +kernel : ∀ t : Fin grid0.N, _)
theorem idx3 : ∀ t : Fin cfg0.N, win0_3.index t (0 : Fin 2) = 0 ∧ win0_3.index t (1 : Fin 2) = t.val := (by decide +kernel : ∀ t : Fin grid0.N, _)

/-- A column of point `t`'s block, in the array. -/
def col (t : Fin cfg0.N) (j : Fin 512) : Fin 5120 := ⟨t.val * 512 + j.val, by have : t.val < 10 := t.isLt; omega⟩

theorem iblk0_apply (c : Dev nD) (t : Fin cfg0.N) (r : Fin 32) (k : Fin 23) (i : Fin 8) (j : Fin 128) :
    (iblk m c 0 t : S32x23x8x128.Idx → BitVec 32) (ix4 r k i j)
      = (V m c main_arg1 : S320x23x8x128.Idx → BitVec 32) (ix4 (⟨t.val * 32 + r.val, by have : t.val < 10 := t.isLt; omega⟩ : Fin 320) k i j) := by
  obtain ⟨e0, e1, e2, e3⟩ := idx0 t
  show (V m c main_arg1 : S320x23x8x128.Idx → BitVec 32) (((cfg0.win 0).blk t).view.emb (ix4 r k i j)) = _
  congr 1
  funext a; apply Fin.ext
  match a with
  | ⟨0, _⟩ => show win0_0.index t (0 : Fin 4) * 32 + 1 * r.val = t.val * 32 + r.val; rw [e0]; omega
  | ⟨1, _⟩ => show win0_0.index t (1 : Fin 4) * 23 + 1 * k.val = k.val; omega
  | ⟨2, _⟩ => show win0_0.index t (2 : Fin 4) * 8 + 1 * i.val = i.val; omega
  | ⟨3, _⟩ => show win0_0.index t (3 : Fin 4) * 128 + 1 * j.val = j.val; omega

theorem iblk1_apply (c : Dev nD) (t : Fin cfg0.N) (r : Fin 1536) (j : Fin 512) :
    (iblk m c 1 t : S1536x512.Idx → EReal) (ix2 r j) = (V m c main_arg2 : S1536x5120.Idx → EReal) (ix2 r (col t j)) := by
  obtain ⟨e0, e1⟩ := idx1 t
  show (V m c main_arg2 : S1536x5120.Idx → EReal) (((cfg0.win 1).blk t).view.emb (ix2 r j)) = _
  congr 1
  funext a; apply Fin.ext
  match a with
  | ⟨0, _⟩ => show win0_1.index t (0 : Fin 2) * 1536 + 1 * r.val = r.val; omega
  | ⟨1, _⟩ => show win0_1.index t (1 : Fin 2) * 512 + 1 * j.val = t.val * 512 + j.val; rw [e1]; omega

theorem emb2_eq (t : Fin cfg0.N) (r : Fin 1536) (j : Fin 512) :
    (((cfg0.win 2).blk t).view.emb (ix2 r j) : S1536x5120.Idx) = ix2 r (col t j) := by
  obtain ⟨e0, e1⟩ := idx2 t
  funext a; apply Fin.ext
  match a with
  | ⟨0, _⟩ => show win0_2.index t (0 : Fin 2) * 1536 + 1 * r.val = r.val; omega
  | ⟨1, _⟩ => show win0_2.index t (1 : Fin 2) * 512 + 1 * j.val = t.val * 512 + j.val; rw [e1]; omega
theorem emb3_eq (t : Fin cfg0.N) (r : Fin 1536) (j : Fin 512) :
    (((cfg0.win 3).blk t).view.emb (ix2 r j) : S1536x5120.Idx) = ix2 r (col t j) := by
  obtain ⟨e0, e1⟩ := idx3 t
  funext a; apply Fin.ext
  match a with
  | ⟨0, _⟩ => show win0_3.index t (0 : Fin 2) * 1536 + 1 * r.val = r.val; omega
  | ⟨1, _⟩ => show win0_3.index t (1 : Fin 2) * 512 + 1 * j.val = t.val * 512 + j.val; rw [e1]; omega

/-- The product and the sum of the arrays the pipeline reads. -/
def wholeS (c : Dev nD) : S1536x5120.Idx → EReal := product (R := 320) (C := 5120) rfl (V m c main_arg0) (V m c main_arg1)
def wholeY (c : Dev nD) : S1536x5120.Idx → EReal := total (R := 320) (C := 5120) rfl (V m c main_arg0) (V m c main_arg1) (V m c main_arg2)

theorem covers2 : win0_2.Covers := by decide +kernel
theorem covers3 : win0_3.Covers := by decide +kernel

theorem block_cell (c : Dev nD) (t : Fin cfg0.N) (r : Fin 1536) (j : Fin 512) :
    product (R := 32) (C := 512) rfl (V m c main_arg0 : S23x1536x128.Idx → EReal) (iblk m c 0 t) (ix2 r j) = wholeS m c (ix2 r (col t j)) :=
  cell_cols _ _ _ t.val t.isLt (iblk0_apply m c t) r j

theorem final3 (c : Dev nD) : (dats m 0 c).arrAt 3 cfg0.N = wholeS m c := by
  refine Pipeline.Dat.arrAt_eq_of_covers (dats m 0 c) 3 (wholeS m c) covers3 (fun t _ => ?_)
  intro (y : S1536x512.Idx)
  obtain ⟨r, j, rfl⟩ : ∃ (r : Fin 1536) (j : Fin 512), y = ix2 r j := ⟨y 0, y 1, by funext a; fin_cases a <;> rfl⟩
  show outAtS m c t (ix2 r j) = wholeS m c (((cfg0.win 3).blk t).view.emb (ix2 r j))
  rw [emb3_eq]
  exact (outS_apply _ _ _ _ c _ _ _ _ _ _ _ _ _).trans (block_cell m c t r j)

theorem final2 (c : Dev nD) : (dats m 0 c).arrAt 2 cfg0.N = wholeY m c := by
  refine Pipeline.Dat.arrAt_eq_of_covers (dats m 0 c) 2 (wholeY m c) covers2 (fun t _ => ?_)
  intro (y : S1536x512.Idx)
  obtain ⟨r, j, rfl⟩ : ∃ (r : Fin 1536) (j : Fin 512), y = ix2 r j := ⟨y 0, y 1, by funext a; fin_cases a <;> rfl⟩
  show outAtY m c t (ix2 r j) = wholeY m c (((cfg0.win 2).blk t).view.emb (ix2 r j))
  rw [emb2_eq]
  exact (outY_apply _ _ _ _ c _ _ _ _ _ _ _ _ _).trans (congrArg₂ (· + ·) (iblk1_apply m c t r j) (block_cell m c t r j))

/-- The run: the results in the arguments, and the arguments as launched. -/
theorem value_run : θ_run defs (onTc (τ := τ) (main (F := Ideal))) ⟨m, fun _ => 0, ρ⟩ (fun r => ∀ c : Dev nD,
      r.2.mem ((c.tc : Thread nD τ).loc main_v0_0)
        = total (R := 320) (C := 5120) rfl (m ((c.tc : Thread nD τ).loc main_arg0)) (m ((c.tc : Thread nD τ).loc main_arg1)) (m ((c.tc : Thread nD τ).loc main_arg2))
      ∧ r.2.mem ((c.tc : Thread nD τ).loc main_v0_1)
        = product (R := 320) (C := 5120) rfl (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 2).trans (final2 m c), ((h.1 c).1 3).trans (final3 m c),
      ((h.1 c).2 main_arg0 (Pipeline.mem_restRefs_of main_arg0 (by decide) (by decide))).trans (V_main_arg0 m c),
      ((h.1 c).1 0).trans (((dats m 0 c).arrAt_in 0 rfl _).trans ((A_eq m c 0).trans (V_main_arg1 m c))),
      ((h.1 c).1 1).trans (((dats m 0 c).arrAt_in 1 rfl _).trans ((A_eq m c 1).trans (V_main_arg2 m c)))⟩) (run_main m ρ)

end Cert.Proof.S

end
-- ==== Proof.SparseRefSide.lean ====
/-
  The sparse call's reference at exact arithmetic: its stacked halves of the words, laid out by channels, are the weights,
  and its product is the one sum of 2944 products.
-/
module

public import proofs.«01_k».proof.Proof.SparseTarget
public import proofs.«01_k».proof.Proof.Gen.SparseReferenceIdeal
public import proofs.«01_k».proof.Proof.Gen.SparseReferenceIdeal.Run
public import Idealize.ShloMosaic.Lib.ValueLayout

@[expose] public section

noncomputable section

namespace Cert.Proof.SR

open Cert.SparseReferenceIdeal Cert.SparseReferenceIdeal.Gen Cert.SparseReferenceIdeal.Value
open Idealize.ShloMosaic Idealize.ShloMosaic.TcCoe Idealize.ShloMosaic.ValueIdx Idealize.ShloMosaic.StableHlo
open Idealize.SL.Sem
open Cert.Proof.S (entry tileAt cell product total)
open scoped BigOperators

variable {F : FTy → Type} [FloatOps F]

theorem low_half (w : BitVec 32) : w.setWidth 16 = w.extractLsb' 0 16 := by
  ext i hi; simp [BitVec.getElem_setWidth, BitVec.getElem_extractLsb']
theorem high_half (w : BitVec 32) : (IntOp.shrsi .host w 16#32).setWidth 16 = w.extractLsb' 16 16 := by
  have e : IntOp.shrsi .host w 16#32 = w.sshiftRight 16 := rfl
  rw [e]
  ext i hi
  simp only [BitVec.getElem_setWidth, BitVec.getElem_extractLsb', BitVec.getLsbD_sshiftRight]
  have : ¬ 32 ≤ i := by omega
  have : 16 + i < 32 := by omega
  simp [*]

/-- The low and the high halves of the words. -/
def low (w : S320x23x8x128.Idx → BitVec 32) : FVec F S320x23x8x128 .bf16 := bitcastToFloat .bf16 (trunci 16 w natLt_16_32)
def high (w : S320x23x8x128.Idx → BitVec 32) : FVec F S320x23x8x128 .bf16 :=
  bitcastToFloat .bf16 (trunci 16 (Host.shrsi w (broadcastInDim S320x23x8x128 ![] bcast_S_S320x23x8x128 (constantI S_ 32 16#32))) natLt_16_32)

/-- The stacked halves, laid out by channels. -/
def weights (w : S320x23x8x128.Idx → BitVec 32) : FVec F S5120x2944 .bf16 :=
  shapeCast S5120x2944 (transpose S320x8x2x23x128 [0, 2, 3, 1, 4] (concatenate S320x23x8x2x128 3
    [⟨S320x23x8x1x128, broadcastInDim S320x23x8x1x128 ![0, 1, 2, 4] bcast_S320x23x8x128_S320x23x8x1x128_0_1_2_4 (low w)⟩,
      ⟨S320x23x8x1x128, broadcastInDim S320x23x8x1x128 ![0, 1, 2, 4] bcast_S320x23x8x128_S320x23x8x1x128_0_1_2_4 (high w)⟩]
    concatenates_S320x23x8x1x128_S320x23x8x1x128_S320x23x8x2x128_d3) transposes_S320x23x8x2x128_S320x8x2x23x128_0_2_3_1_4)
    shapeCasts_S320x8x2x23x128_S5120x2944

theorem weights_apply (w : S320x23x8x128.Idx → BitVec 32) (n : Fin 5120) (κ : Fin 2944) :
    weights (F := F) w (ix2 n κ) = entry (F := F) (R := 320) (C := 5120) rfl w κ n := by
  have hn := n.isLt
  have hκ := κ.isLt
  unfold weights entry
  rw [shapeCast_apply (k := ix5 (⟨n.val / 16, by omega⟩ : Fin 320) (⟨n.val % 16 / 2, by omega⟩ : Fin 8) (⟨n.val % 2, by omega⟩ : Fin 2)
    (⟨κ.val / 128, by omega⟩ : Fin 23) (⟨κ.val % 128, by omega⟩ : Fin 128)) (hk := by
    rw [Shape.rowMajor_val_five, Shape.rowMajor_val_two]
    show (((n.val / 16 * 8 + n.val % 16 / 2) * 2 + n.val % 2) * 23 + κ.val / 128) * 128 + κ.val % 128 = n.val * 2944 + κ.val
    omega)]
  rw [transpose_apply (s := S320x23x8x2x128) (t := S320x8x2x23x128) (perm := [0, 2, 3, 1, 4]) (k := ix5 (⟨n.val / 16, by omega⟩ : Fin 320) (⟨κ.val / 128, by omega⟩ : Fin 23) (⟨n.val % 16 / 2, by omega⟩ : Fin 8)
    (⟨n.val % 2, by omega⟩ : Fin 2) (⟨κ.val % 128, by omega⟩ : Fin 128))
    (hk := fun a => match a with | 0 => rfl | 1 => rfl | 2 => rfl | 3 => rfl | 4 => rfl)]
  by_cases hp : n.val % 2 = 0
  · rw [concatenate_pair_apply_left (i := ix5 (⟨n.val / 16, by omega⟩ : Fin 320) (⟨κ.val / 128, by omega⟩ : Fin 23) (⟨n.val % 16 / 2, by omega⟩ : Fin 8)
      (⟨0, by decide⟩ : Fin 1) (⟨κ.val % 128, by omega⟩ : Fin 128)) (t := S320x23x8x2x128) (s₁ := S320x23x8x1x128) (s₂ := S320x23x8x1x128) (a := 3) (hr := rfl)
      (hi := fun b => match b with | 0 => rfl | 1 => rfl | 2 => rfl | 3 => hp.symm | 4 => rfl)]
    rw [broadcastInDim_apply (k := ix4 (⟨n.val / 16, by omega⟩ : Fin 320) (⟨κ.val / 128, by omega⟩ : Fin 23) (⟨n.val % 16 / 2, by omega⟩ : Fin 8)
      (⟨κ.val % 128, by omega⟩ : Fin 128)) (hk := fun a => match a with | 0 => rfl | 1 => rfl | 2 => rfl | 3 => rfl)]
    rw [hp]
    exact congrArg (FloatOps.ofBits FTy.bf16) (low_half _)
  · have hp' : n.val % 2 = 1 := by omega
    rw [concatenate_pair_apply_right (i := ix5 (⟨n.val / 16, by omega⟩ : Fin 320) (⟨κ.val / 128, by omega⟩ : Fin 23) (⟨n.val % 16 / 2, by omega⟩ : Fin 8)
      (⟨0, by decide⟩ : Fin 1) (⟨κ.val % 128, by omega⟩ : Fin 128)) (t := S320x23x8x2x128) (s₁ := S320x23x8x1x128) (s₂ := S320x23x8x1x128) (a := 3) (hr := rfl) (hr₂ := rfl)
      (hi := by exact fun b hb => match b with | 0 => rfl | 1 => rfl | 2 => rfl | 3 => absurd rfl hb | 4 => rfl) (ha := by exact hp'.symm)]
    rw [broadcastInDim_apply (k := ix4 (⟨n.val / 16, by omega⟩ : Fin 320) (⟨κ.val / 128, by omega⟩ : Fin 23) (⟨n.val % 16 / 2, by omega⟩ : Fin 8)
      (⟨κ.val % 128, by omega⟩ : Fin 128)) (hk := fun a => match a with | 0 => rfl | 1 => rfl | 2 => rfl | 3 => rfl)]
    rw [hp']
    exact congrArg (FloatOps.ofBits FTy.bf16) (high_half _)

/-- The rows of `x`, from its tiles. -/
def xrows (x : S23x1536x128.Idx → F .bf16) : FVec F S1536x2944 .bf16 :=
  shapeCast S1536x2944 (transpose S1536x23x128 [1, 0, 2] x transposes_S23x1536x128_S1536x23x128_1_0_2) shapeCasts_S1536x23x128_S1536x2944

theorem xrows_apply (x : S23x1536x128.Idx → F .bf16) (m : Fin 1536) (κ : Fin 2944) : xrows x (ix2 m κ) = tileAt (α := F .bf16) x m κ := by
  have hκ := κ.isLt
  unfold xrows tileAt
  rw [shapeCast_apply (k := ix3 m (⟨κ.val / 128, by omega⟩ : Fin 23) (⟨κ.val % 128, by omega⟩ : Fin 128)) (hk := by
    rw [Shape.rowMajor_val_three, Shape.rowMajor_val_two]
    show (m.val * 23 + κ.val / 128) * 128 + κ.val % 128 = m.val * 2944 + κ.val
    omega)]
  rw [transpose_apply (s := S23x1536x128) (t := S1536x23x128) (perm := [1, 0, 2]) (k := ix3 (⟨κ.val / 128, by omega⟩ : Fin 23) m (⟨κ.val % 128, by omega⟩ : Fin 128))
    (hk := fun a => match a with | 0 => rfl | 1 => rfl | 2 => rfl)]

abbrev dd : DotDims S1536x2944 S5120x2944 S1536x5120 := dot_S1536x2944_S5120x2944_S1536x5120_1_1_0_0_n_n

theorem dot_apply (L : FVec Ideal S1536x2944 .bf16) (R : FVec Ideal S5120x2944 .bf16) (q : Fin 1536) (n : Fin 5120) :
    (Host.dotGeneral dd none L R : FVec Ideal S1536x5120 .f32) (ix2 q n) = ∑ k : Fin 2944, L (ix2 q k) * R (ix2 n k) := by
  have hr : dd.contr.rank = 1 := rfl
  have hs : dd.contr.size ⟨0, by rw [hr]; exact Nat.one_pos⟩ = 2944 := rfl
  refine (Ideal.dotGeneral_apply dd none .single L R (ix2 q n)).trans ?_
  rw [← Equiv.sum_comp (contrEquiv1 dd 2944 hr hs).symm]
  refine Finset.sum_congr rfl fun k _ => ?_
  have hk := contrEquiv1_symm_val dd 2944 hr hs k
  have el : dd.lhsIdx (ix2 q n) ((contrEquiv1 dd 2944 hr hs).symm k) = ix2 q k := by
    funext a; apply Fin.ext
    match a with
    | ⟨0, _⟩ => rfl
    | ⟨1, _⟩ => exact hk
  have er : dd.rhsIdx (ix2 q n) ((contrEquiv1 dd 2944 hr hs).symm k) = ix2 n k := by
    funext a; apply Fin.ext
    match a with
    | ⟨0, _⟩ => rfl
    | ⟨1, _⟩ => exact hk
  rw [el, er]

theorem product_eq (x : FVec Ideal S23x1536x128 .bf16) (w : S320x23x8x128.Idx → BitVec 32) :
    (Host.dotGeneral dd none (xrows x) (weights (F := Ideal) w) : FVec Ideal S1536x5120 .f32) = product (R := 320) (C := 5120) rfl x w := by
  funext (y : S1536x5120.Idx)
  obtain ⟨q, j, rfl⟩ : ∃ (q : Fin 1536) (j : Fin 5120), y = ix2 q j := ⟨y 0, y 1, by funext a; fin_cases a <;> rfl⟩
  refine (dot_apply _ _ q j).trans ?_
  show _ = cell (R := 320) (C := 5120) rfl x w q j
  unfold cell
  refine Finset.sum_congr rfl fun κ _ => ?_
  exact congrArg₂ (· * ·) (xrows_apply x q κ) (weights_apply w j κ)

theorem total_eq (x : FVec Ideal S23x1536x128 .bf16) (w : S320x23x8x128.Idx → BitVec 32) (yd : FVec Ideal S1536x5120 .f32) :
    (truncf .bf16 (addf yd (Host.dotGeneral dd none (xrows x) (weights (F := Ideal) w) : FVec Ideal S1536x5120 .f32)) bitsLt_bf16_f32 : FVec Ideal S1536x5120 .bf16)
      = total (R := 320) (C := 5120) rfl x w yd := by
  rw [product_eq]
  rfl

/-- The reference runs to the end with the sum and the product in its results and its arguments as they were. -/
theorem value_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v15) = total (R := 320) (C := 5120) rfl (m ((c.tc : Thread nD τ).loc main_arg0)) (m ((c.tc : Thread nD τ).loc main_arg1)) (m ((c.tc : Thread nD τ).loc main_arg2))
      ∧ r.2.mem ((c.tc : Thread nD τ).loc main_v13) = product (R := 320) (C := 5120) rfl (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (Cert.SparseReferenceIdeal.Value.run m ρ)
  obtain ⟨hy, hs, h'⟩ := h c
  exact ⟨hy.trans (total_eq _ _ _), hs.trans (product_eq _ _), h'⟩

end Cert.Proof.SR

end
-- ==== Proof.SparseClaims.lean ====
/-
  The claims of the sparse call. As for the dense call, the idealized program's text is the kernel's own, read at the
  extended reals.
-/
module

public import proofs.«01_k».proof.Defs
public import proofs.«01_k».proof.Proof.SparseArray
public import proofs.«01_k».proof.Proof.SparseRefSide
public import proofs.«01_k».proof.Proof.Gen.SparseIdeal

@[expose] public section

noncomputable section

namespace Cert.Proof

open Idealize.ShloMosaic Idealize.ShloMosaic.TcCoe Idealize.ShloMosaic.Tactic
open Idealize.SL.Sem

theorem frame_S : @Cert.quiescent_Sparse Cert.Sparse.Gen.facts := fun m g _ => Cert.Proof.S.frame_run m g

theorem frame_same_S : @Cert.quiescent_SparseIdeal Cert.SparseIdeal.Gen.facts =
    ∀ (m : (ℓ : Loc Cert.Sparse.nD Cert.Sparse.τ Cert.Sparse.sig) → Buf (Elt Ideal) ℓ) (g : Dev Cert.Sparse.nD → PrngReg), True →
      θ_run (Cert.Sparse.defs (F := Ideal)) (onTc (τ := Cert.Sparse.τ) (Cert.Sparse.main (F := Ideal))) ⟨m, fun _ => 0, g⟩ (fun r => (∀ c : Dev Cert.Sparse.nD,
        r.2.mem ((c.tc : Thread Cert.Sparse.nD Cert.Sparse.τ).loc Cert.Sparse.main_arg0) = m ((c.tc : Thread Cert.Sparse.nD Cert.Sparse.τ).loc Cert.Sparse.main_arg0)
        ∧ r.2.mem ((c.tc : Thread Cert.Sparse.nD Cert.Sparse.τ).loc Cert.Sparse.main_arg1) = m ((c.tc : Thread Cert.Sparse.nD Cert.Sparse.τ).loc Cert.Sparse.main_arg1)
        ∧ r.2.mem ((c.tc : Thread Cert.Sparse.nD Cert.Sparse.τ).loc Cert.Sparse.main_arg2) = m ((c.tc : Thread Cert.Sparse.nD Cert.Sparse.τ).loc Cert.Sparse.main_arg2))
        ∧ r.2.sem = fun _ => 0) := by sl_kernel_rfl

theorem frame_SI : @Cert.quiescent_SparseIdeal Cert.SparseIdeal.Gen.facts :=
  frame_same_S.mpr fun m g _ => Cert.Proof.S.frame_run m g

theorem frame_SRI : @Cert.quiescent_SparseReferenceIdeal Cert.SparseReferenceIdeal.Gen.facts := fun m g _ =>
  (θ_run _ _ _).mono (fun r h => ⟨fun c => (h c).2.2, sem_eq_zero_of_no_sems (by decide) r.2⟩) (Cert.SparseReferenceIdeal.Value.run m g)

/-- The value claim in the kernel's own names. -/
theorem value_same_S : @Cert.algebraic_SparseIdeal_SparseReferenceIdeal Cert.SparseIdeal.Gen.facts Cert.SparseReferenceIdeal.Gen.facts =
    ∀ (m : (ℓ : Loc Cert.Sparse.nD Cert.Sparse.τ Cert.Sparse.sig) → Buf (Elt Ideal) ℓ) (g : Dev Cert.Sparse.nD → PrngReg)
      (m' : (ℓ : Loc Cert.SparseReferenceIdeal.nD Cert.SparseReferenceIdeal.τ Cert.SparseReferenceIdeal.sig) → Buf (Elt Ideal) ℓ) (g' : Dev Cert.SparseReferenceIdeal.nD → PrngReg), True →
      (∀ c : Dev Cert.Sparse.nD,
        m' ((c.tc : Thread Cert.SparseReferenceIdeal.nD Cert.SparseReferenceIdeal.τ).loc Cert.SparseReferenceIdeal.main_arg0) = m ((c.tc : Thread Cert.Sparse.nD Cert.Sparse.τ).loc Cert.Sparse.main_arg0)
        ∧ m' ((c.tc : Thread Cert.SparseReferenceIdeal.nD Cert.SparseReferenceIdeal.τ).loc Cert.SparseReferenceIdeal.main_arg1) = m ((c.tc : Thread Cert.Sparse.nD Cert.Sparse.τ).loc Cert.Sparse.main_arg1)
        ∧ m' ((c.tc : Thread Cert.SparseReferenceIdeal.nD Cert.SparseReferenceIdeal.τ).loc Cert.SparseReferenceIdeal.main_arg2) = m ((c.tc : Thread Cert.Sparse.nD Cert.Sparse.τ).loc Cert.Sparse.main_arg2)) →
      ∃ (v0 : (c : Dev Cert.Sparse.nD) → Buf (Elt Ideal) ((c.tc : Thread Cert.Sparse.nD Cert.Sparse.τ).loc Cert.Sparse.main_v0_0)) (v1 : (c : Dev Cert.Sparse.nD) → Buf (Elt Ideal) ((c.tc : Thread Cert.Sparse.nD Cert.Sparse.τ).loc Cert.Sparse.main_v0_1)),
        θ_run (Cert.Sparse.defs (F := Ideal)) (onTc (τ := Cert.Sparse.τ) (Cert.Sparse.main (F := Ideal))) ⟨m, fun _ => 0, g⟩ (fun r => ∀ c : Dev Cert.Sparse.nD,
            r.2.mem ((c.tc : Thread Cert.Sparse.nD Cert.Sparse.τ).loc Cert.Sparse.main_v0_0) = v0 c
            ∧ r.2.mem ((c.tc : Thread Cert.Sparse.nD Cert.Sparse.τ).loc Cert.Sparse.main_v0_1) = v1 c
            ∧ r.2.mem ((c.tc : Thread Cert.Sparse.nD Cert.Sparse.τ).loc Cert.Sparse.main_arg0) = m ((c.tc : Thread Cert.Sparse.nD Cert.Sparse.τ).loc Cert.Sparse.main_arg0)
            ∧ r.2.mem ((c.tc : Thread Cert.Sparse.nD Cert.Sparse.τ).loc Cert.Sparse.main_arg1) = m ((c.tc : Thread Cert.Sparse.nD Cert.Sparse.τ).loc Cert.Sparse.main_arg1)
            ∧ r.2.mem ((c.tc : Thread Cert.Sparse.nD Cert.Sparse.τ).loc Cert.Sparse.main_arg2) = m ((c.tc : Thread Cert.Sparse.nD Cert.Sparse.τ).loc Cert.Sparse.main_arg2))
        ∧ θ_run (Cert.SparseReferenceIdeal.defs (F := Ideal)) (onTc (τ := Cert.SparseReferenceIdeal.τ) (Cert.SparseReferenceIdeal.main (F := Ideal))) ⟨m', fun _ => 0, g'⟩ (fun r => ∀ c : Dev Cert.SparseReferenceIdeal.nD,
            r.2.mem ((c.tc : Thread Cert.SparseReferenceIdeal.nD Cert.SparseReferenceIdeal.τ).loc Cert.SparseReferenceIdeal.main_v15) = v0 c
            ∧ r.2.mem ((c.tc : Thread Cert.SparseReferenceIdeal.nD Cert.SparseReferenceIdeal.τ).loc Cert.SparseReferenceIdeal.main_v13) = v1 c
            ∧ r.2.mem ((c.tc : Thread Cert.SparseReferenceIdeal.nD Cert.SparseReferenceIdeal.τ).loc Cert.SparseReferenceIdeal.main_arg0) = m' ((c.tc : Thread Cert.SparseReferenceIdeal.nD Cert.SparseReferenceIdeal.τ).loc Cert.SparseReferenceIdeal.main_arg0)
            ∧ r.2.mem ((c.tc : Thread Cert.SparseReferenceIdeal.nD Cert.SparseReferenceIdeal.τ).loc Cert.SparseReferenceIdeal.main_arg1) = m' ((c.tc : Thread Cert.SparseReferenceIdeal.nD Cert.SparseReferenceIdeal.τ).loc Cert.SparseReferenceIdeal.main_arg1)
            ∧ r.2.mem ((c.tc : Thread Cert.SparseReferenceIdeal.nD Cert.SparseReferenceIdeal.τ).loc Cert.SparseReferenceIdeal.main_arg2) = m' ((c.tc : Thread Cert.SparseReferenceIdeal.nD Cert.SparseReferenceIdeal.τ).loc Cert.SparseReferenceIdeal.main_arg2)) := by sl_kernel_rfl

theorem value_SI : @Cert.algebraic_SparseIdeal_SparseReferenceIdeal Cert.SparseIdeal.Gen.facts Cert.SparseReferenceIdeal.Gen.facts :=
  value_same_S.mpr fun m g m' g' _ hm => ⟨_, _, Cert.Proof.S.value_run m g,
    (θ_run _ _ _).mono (fun _ h c => ⟨(h c).1.trans (by rw [(hm c).1, (hm c).2.1, (hm c).2.2]), (h c).2.1.trans (by rw [(hm c).1, (hm c).2.1]), (h c).2.2⟩)
      (Cert.Proof.SR.value_run m' g')⟩

end Cert.Proof

end
-- ==== Proof.lean ====
/- The proof of the claims. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Sparse
public import proofs.«01_k».proof.Proof.Gen.Sparse.Skeleton
public import proofs.«01_k».proof.Proof.Gen.Sparse.Launch
public import proofs.«01_k».proof.Proof.Gen.Sparse.Points
public import proofs.«01_k».proof.Proof.Gen.Sparse.Frame
public import proofs.«01_k».proof.Proof.Gen.SparseIdeal
public import proofs.«01_k».proof.Proof.Gen.SparseReferenceIdeal
public import proofs.«01_k».proof.Proof.Gen.SparseReferenceIdeal.Run
public import proofs.«01_k».proof.Proof.Claims
public import proofs.«01_k».proof.Proof.SparseClaims
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts,
    Cert.Sparse.Gen.facts, Cert.SparseIdeal.Gen.facts, Cert.SparseReferenceIdeal.Gen.facts,
    frame_K, frame_KI, frame_RI, frame_S, frame_SI, frame_SRI, trivial, value_KI, trivial, value_SI⟩

end Cert.Proof

end
